-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v40)) (v2 : (c : Dev Cert.KernelIdeal.nD) → Buf (Elt Ideal) ((c.tc : Thread Cert.KernelIdeal.nD Cert.KernelIdeal.τ).loc Cert.KernelIdeal.main_v41)) (v3 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_v41) = v2 c
          ∧ r.2.mem ((c.tc : Thread Cert.KernelIdeal.nD Cert.KernelIdeal.τ).loc Cert.KernelIdeal.main_v42) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S512x64x64 : Shape := ⟨3, ![512, 64, 64]⟩
abbrev S512x64x8x64 : Shape := ⟨4, ![512, 64, 8, 64]⟩
abbrev S512x64x8x4 : Shape := ⟨4, ![512, 64, 8, 4]⟩
abbrev S512x64x8x1 : Shape := ⟨4, ![512, 64, 8, 1]⟩
abbrev S64x64 : Shape := ⟨2, ![64, 64]⟩
abbrev S4x8 : Shape := ⟨2, ![4, 8]⟩
abbrev S8 : Shape := ⟨1, ![8]⟩
abbrev S8x64 : Shape := ⟨2, ![8, 64]⟩
abbrev S64 : Shape := ⟨1, ![64]⟩
abbrev S64x8 : Shape := ⟨2, ![64, 8]⟩
abbrev S_ : Shape := ⟨0, ![]⟩

class Facts : Prop where
  bcast_S_S512x64x64 : S_.BroadcastsInDim S512x64x64 (![] : Fin 0 → Fin S512x64x64.rank)
  reducesTo_S512x64x64_S_d0_1_2 : S512x64x64.ReducesTo [0, 1, 2] S_
  h_S_ : 0 < S_.numel
  bcast_S_S512x64x8x64 : S_.BroadcastsInDim S512x64x8x64 (![] : Fin 0 → Fin S512x64x8x64.rank)
  reducesTo_S512x64x8x64_S_d0_1_2_3 : S512x64x8x64.ReducesTo [0, 1, 2, 3] S_
  bcast_S_S512x64x8x4 : S_.BroadcastsInDim S512x64x8x4 (![] : Fin 0 → Fin S512x64x8x4.rank)
  reducesTo_S512x64x8x4_S_d0_1_2_3 : S512x64x8x4.ReducesTo [0, 1, 2, 3] S_
  bcast_S_S64x64 : S_.BroadcastsInDim S64x64 (![] : Fin 0 → Fin S64x64.rank)
  reducesTo_S64x64_S_d0_1 : S64x64.ReducesTo [0, 1] S_
  bcast_S_S4x8 : S_.BroadcastsInDim S4x8 (![] : Fin 0 → Fin S4x8.rank)
  reducesTo_S4x8_S_d0_1 : S4x8.ReducesTo [0, 1] S_
  bcast_S_S8 : S_.BroadcastsInDim S8 (![] : Fin 0 → Fin S8.rank)
  reducesTo_S8_S_d0 : S8.ReducesTo [0] S_
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_

variable [Facts]

def fn_part3 {F : FTy → Type} [FloatOps F] (main_arg13 : FVec F S8x64 .f32) (main_arg14 : FVec F S64 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8x64 .f32 := Host.absf main_arg13
  let main_cst_20 : FVec F S_ .f32 := constant S_ .f32 0x7F800000#32
  let main_v55 : FVec F S8x64 .f32 := broadcastInDim S8x64 ![] bcast_S_S8x64 main_cst_20
  let main_v56 : IVec S8x64 1 := cmpf .olt main_v54 main_v55
  let main_c_21 : IVec S_ 1 := constantI S_ 1 1#1
  let main_v57 : IVec S_ 1 := (fun x v => Host.reduce IntOp.andi x v reducesTo_S8x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S8x64 .f32) (main_arg10 : FVec F S64 .f32) (main_arg11 : FVec F S64x8 .f32) (main_arg12 : FVec F S8 .f32) (main_arg13 : FVec F S8x64 .f32) (main_arg14 : FVec F S64 .f32) (main_v33 : IVec S_ 1) : IVec S_ 1 :=
  let main_v34 : FVec F S8x64 .f32 := Host.absf main_arg9
  let main_cst_12 : FVec F S_ .f32 := constant S_ .f32 0x7F800000#32
  let main_v35 : FVec F S8x64 .f32 := broadcastInDim S8x64 ![] bcast_S_S8x64 main_cst_12
  let main_v36 : IVec S8x64 1 := cmpf .olt main_v34 main_v35
  let main_c_13 : IVec S_ 1 := constantI S_ 1 1#1
  let main_v37 : IVec S_ 1 := (fun x v => Host.reduce IntOp.andi x v reducesTo_S8x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x8 .f32 := Host.absf main_arg11
  let main_cst_16 : FVec F S_ .f32 := constant S_ .f32 0x7F800000#32
  let main_v45 : FVec F S64x8 .f32 := broadcastInDim S64x8 ![] bcast_S_S64x8 main_cst_16
  let main_v46 : IVec S64x8 1 := cmpf .olt main_v44 main_v45
  let main_c_17 : IVec S_ 1 := constantI S_ 1 1#1
  let main_v47 : IVec S_ 1 := (fun x v => Host.reduce IntOp.andi x v reducesTo_S64x8_S_d0_1 h_S_) main_v46 main_c_17
  let main_v48 : IVec S_ 1 := andi main_v43 main_v47
  let main_v49 : FVec F S8 .f32 := Host.absf main_arg12
  let main_cst_18 : FVec F S_ .f32 := constant S_ .f32 0x7F800000#32
  let main_v50 : FVec F S8 .f32 := broadcastInDim S8 ![] bcast_S_S8 main_cst_18
  fn_part3 (F := F) main_arg13 main_arg14 main_v48 main_v49 main_v50

def fn_part1 {F : FTy → Type} [FloatOps F] (main_arg5 : FVec F S64x64 .f32) (main_arg7 : FVec F S4x8 .f32) (main_arg8 : FVec F S8 .f32) (main_arg9 : FVec F S8x64 .f32) (main_arg10 : FVec F S64 .f32) (main_arg11 : FVec F S64x8 .f32) (main_arg12 : FVec F S8 .f32) (main_arg13 : FVec F S8x64 .f32) (main_arg14 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S4x8 .f32 := Host.absf main_arg7
  let main_cst_8 : FVec F S_ .f32 := constant S_ .f32 0x7F800000#32
  let main_v25 : FVec F S4x8 .f32 := broadcastInDim S4x8 ![] bcast_S_S4x8 main_cst_8
  let main_v26 : IVec S4x8 1 := cmpf .olt main_v24 main_v25
  let main_c_9 : IVec S_ 1 := constantI S_ 1 1#1
  let main_v27 : IVec S_ 1 := (fun x v => Host.reduce IntOp.andi x v reducesTo_S4x8_S_d0_1 h_S_) main_v26 main_c_9
  let main_v28 : IVec S_ 1 := andi main_v23 main_v27
  let main_v29 : FVec F S8 .f32 := Host.absf main_arg8
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S512x64x64 .f32) (main_arg1 : FVec F S512x64x8x64 .f32) (main_arg2 : FVec F S512x64x8x4 .f32) (main_arg3 : IVec S512x64x8x1 1) (main_arg4 : FVec F S64x64 .f32) (main_arg5 : FVec F S64x64 .f32) (main_arg6 : FVec F S64x64 .f32) (main_arg7 : FVec F S4x8 .f32) (main_arg8 : FVec F S8 .f32) (main_arg9 : FVec F S8x64 .f32) (main_arg10 : FVec F S64 .f32) (main_arg11 : FVec F S64x8 .f32) (main_arg12 : FVec F S8 .f32) (main_arg13 : FVec F S8x64 .f32) (main_arg14 : FVec F S64 .f32) (main_arg15 : FVec F S64x64 .f32) (main_arg16 : FVec F S64 .f32) : IVec S_ 1 :=
  let main_v0 : FVec F S512x64x64 .f32 := Host.absf main_arg0
  let main_cst : FVec F S_ .f32 := constant S_ .f32 0x7F800000#32
  let main_v1 : FVec F S512x64x64 .f32 := broadcastInDim S512x64x64 ![] bcast_S_S512x64x64 main_cst
  let main_v2 : IVec S512x64x64 1 := cmpf .olt main_v0 main_v1
  let main_c : IVec S_ 1 := constantI S_ 1 1#1
  let main_v3 : IVec S_ 1 := (fun x v => Host.reduce IntOp.andi x v reducesTo_S512x64x64_S_d0_1_2 h_S_) main_v2 main_c
  let main_v4 : FVec F S512x64x8x64 .f32 := Host.absf main_arg1
  let main_cst_0 : FVec F S_ .f32 := constant S_ .f32 0x7F800000#32
  let main_v5 : FVec F S512x64x8x64 .f32 := broadcastInDim S512x64x8x64 ![] bcast_S_S512x64x8x64 main_cst_0
  let main_v6 : IVec S512x64x8x64 1 := cmpf .olt main_v4 main_v5
  let main_c_1 : IVec S_ 1 := constantI S_ 1 1#1
  let main_v7 : IVec S_ 1 := (fun x v => Host.reduce IntOp.andi x v reducesTo_S512x64x8x64_S_d0_1_2_3 h_S_) main_v6 main_c_1
  let main_v8 : IVec S_ 1 := andi main_v3 main_v7
  let main_v9 : FVec F S512x64x8x4 .f32 := Host.absf main_arg2
  let main_cst_2 : FVec F S_ .f32 := constant S_ .f32 0x7F800000#32
  let main_v10 : FVec F S512x64x8x4 .f32 := broadcastInDim S512x64x8x4 ![] bcast_S_S512x64x8x4 main_cst_2
  let main_v11 : IVec S512x64x8x4 1 := cmpf .olt main_v9 main_v10
  let main_c_3 : IVec S_ 1 := constantI S_ 1 1#1
  let main_v12 : IVec S_ 1 := (fun x v => Host.reduce IntOp.andi x v reducesTo_S512x64x8x4_S_d0_1_2_3 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg7 main_arg8 main_arg9 main_arg10 main_arg11 main_arg12 main_arg13 main_arg14 main_v13 main_v16
-- ==== Kernel.lean ====
abbrev S512x64x64 : Shape := ⟨3, ![512, 64, 64]⟩
abbrev S512x64x8x64 : Shape := ⟨4, ![512, 64, 8, 64]⟩
abbrev S512x64x8x4 : Shape := ⟨4, ![512, 64, 8, 4]⟩
abbrev S512x64x8x1 : Shape := ⟨4, ![512, 64, 8, 1]⟩
abbrev S64x64 : Shape := ⟨2, ![64, 64]⟩
abbrev S4x8 : Shape := ⟨2, ![4, 8]⟩
abbrev S8 : Shape := ⟨1, ![8]⟩
abbrev S8x64 : Shape := ⟨2, ![8, 64]⟩
abbrev S64 : Shape := ⟨1, ![64]⟩
abbrev S64x8 : Shape := ⟨2, ![64, 8]⟩
abbrev S64x64x512 : Shape := ⟨3, ![64, 64, 512]⟩
abbrev S64x8x64x512 : Shape := ⟨4, ![64, 8, 64, 512]⟩
abbrev S64x8x4x512 : Shape := ⟨4, ![64, 8, 4, 512]⟩
abbrev S512x64x8 : Shape := ⟨3, ![512, 64, 8]⟩
abbrev S64x8x512 : Shape := ⟨3, ![64, 8, 512]⟩
abbrev S8x8 : Shape := ⟨2, ![8, 8]⟩
abbrev S72x64 : Shape := ⟨2, ![72, 64]⟩
abbrev S136x64 : Shape := ⟨2, ![136, 64]⟩
abbrev S72x8 : Shape := ⟨2, ![72, 8]⟩
abbrev S8x1 : Shape := ⟨2, ![8, 1]⟩
abbrev S8x512 : Shape := ⟨2, ![8, 512]⟩
abbrev S64x1 : Shape := ⟨2, ![64, 1]⟩
abbrev S64x512 : Shape := ⟨2, ![64, 512]⟩
abbrev S8x4 : Shape := ⟨2, ![8, 4]⟩
abbrev S4x64x512 : Shape := ⟨3, ![4, 64, 512]⟩
abbrev S4x8x64x512 : Shape := ⟨4, ![4, 8, 64, 512]⟩
abbrev S4x8x4x512 : Shape := ⟨4, ![4, 8, 4, 512]⟩
abbrev S4x8x512 : Shape := ⟨3, ![4, 8, 512]⟩
abbrev S8x64x512 : Shape := ⟨3, ![8, 64, 512]⟩
abbrev S8x8x512 : Shape := ⟨3, ![8, 8, 512]⟩
abbrev S1x64x512 : Shape := ⟨3, ![1, 64, 512]⟩
abbrev S72x512 : Shape := ⟨2, ![72, 512]⟩
abbrev S1x1x512 : Shape := ⟨3, ![1, 1, 512]⟩
abbrev S1x512 : Shape := ⟨2, ![1, 512]⟩
abbrev S1x1x64x512 : Shape := ⟨4, ![1, 1, 64, 512]⟩
abbrev S136x512 : Shape := ⟨2, ![136, 512]⟩
abbrev S1x8x512 : Shape := ⟨3, ![1, 8, 512]⟩
abbrev S1x1x4x512 : Shape := ⟨4, ![1, 1, 4, 512]⟩
abbrev S4x512 : Shape := ⟨2, ![4, 512]⟩

abbrev nBuf : Space → Nat
  | .hbm => 63
  | .vmem => 30
  | .smem => 0
  | _ => 0

abbrev bufTy : (tb : Table) → Fin (tcTables nBuf tb) → BufTy
  | .hbm, ⟨0, _⟩ => ⟨S512x64x64, .f32⟩
  | .hbm, ⟨1, _⟩ => ⟨S512x64x8x64, .f32⟩
  | .hbm, ⟨2, _⟩ => ⟨S512x64x8x4, .f32⟩
  | .hbm, ⟨3, _⟩ => ⟨S512x64x8x1, .i1⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S4x8, .f32⟩
  | .hbm, ⟨8, _⟩ => ⟨S8, .f32⟩
  | .hbm, ⟨9, _⟩ => ⟨S8x64, .f32⟩
  | .hbm, ⟨10, _⟩ => ⟨S64, .f32⟩
  | .hbm, ⟨11, _⟩ => ⟨S64x8, .f32⟩
  | .hbm, ⟨12, _⟩ => ⟨S8, .f32⟩
  | .hbm, ⟨13, _⟩ => ⟨S8x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x64x512, .f32⟩
  | .hbm, ⟨18, _⟩ => ⟨S64x8x64x512, .f32⟩
  | .hbm, ⟨19, _⟩ => ⟨S64x8x4x512, .f32⟩
  | .hbm, ⟨20, _⟩ => ⟨S512x64x8, .i1⟩
  | .hbm, ⟨21, _⟩ => ⟨S512x64x8, .f32⟩
  | .hbm, ⟨22, _⟩ => ⟨S64x8x512, .f32⟩
  | .hbm, ⟨23, _⟩ => ⟨S8x64, .f32⟩
  | .hbm, ⟨24, _⟩ => ⟨S64x64, .f32⟩
  | .hbm, ⟨25, _⟩ => ⟨S8x64, .f32⟩
  | .hbm, ⟨26, _⟩ => ⟨S8x64, .f32⟩
  | .hbm, ⟨27, _⟩ => ⟨S64x64, .f32⟩
  | .hbm, ⟨28, _⟩ => ⟨S8x64, .f32⟩
  | .hbm, ⟨29, _⟩ => ⟨S8x64, .f32⟩
  | .hbm, ⟨30, _⟩ => ⟨S64x8, .f32⟩
  | .hbm, ⟨31, _⟩ => ⟨S8x8, .f32⟩
  | .hbm, ⟨32, _⟩ => ⟨S64x64, .f32⟩
  | .hbm, ⟨33, _⟩ => ⟨S72x64, .f32⟩
  | .hbm, ⟨34, _⟩ => ⟨S64x64, .f32⟩
  | .hbm, ⟨35, _⟩ => ⟨S64x64, .f32⟩
  | .hbm, ⟨36, _⟩ => ⟨S136x64, .f32⟩
  | .hbm, ⟨37, _⟩ => ⟨S64x8, .f32⟩
  | .hbm, ⟨38, _⟩ => ⟨S72x8, .f32⟩
  | .hbm, ⟨39, _⟩ => ⟨S8x64, .f32⟩
  | .hbm, ⟨40, _⟩ => ⟨S8, .f32⟩
  | .hbm, ⟨41, _⟩ => ⟨S8, .f32⟩
  | .hbm, ⟨42, _⟩ => ⟨S8x1, .f32⟩
  | .hbm, ⟨43, _⟩ => ⟨S8x512, .f32⟩
  | .hbm, ⟨44, _⟩ => ⟨S64x1, .f32⟩
  | .hbm, ⟨45, _⟩ => ⟨S64x512, .f32⟩
  | .hbm, ⟨46, _⟩ => ⟨S8x1, .f32⟩
  | .hbm, ⟨47, _⟩ => ⟨S8x512, .f32⟩
  | .hbm, ⟨48, _⟩ => ⟨S64x1, .f32⟩
  | .hbm, ⟨49, _⟩ => ⟨S64x512, .f32⟩
  | .hbm, ⟨50, _⟩ => ⟨S64x1, .f32⟩
  | .hbm, ⟨51, _⟩ => ⟨S64x512, .f32⟩
  | .hbm, ⟨52, _⟩ => ⟨S8x4, .f32⟩
  | .hbm, ⟨53, _⟩ => ⟨S64x8, .f32⟩
  | .hbm, ⟨54, _⟩ => ⟨S64x64, .f32⟩
  | .hbm, ⟨55, _⟩ => ⟨S64x64x512, .f32⟩
  | .hbm, ⟨56, _⟩ => ⟨S64x8x64x512, .f32⟩
  | .hbm, ⟨57, _⟩ => ⟨S64x64x512, .f32⟩
  | .hbm, ⟨58, _⟩ => ⟨S64x64x512, .f32⟩
  | .hbm, ⟨59, _⟩ => ⟨S512x64x64, .f32⟩
  | .hbm, ⟨60, _⟩ => ⟨S512x64x8x64, .f32⟩
  | .hbm, ⟨61, _⟩ => ⟨S512x64x64, .f32⟩
  | .hbm, ⟨62, _⟩ => ⟨S512x64x64, .f32⟩
  | .local _ .vmem, ⟨0, _⟩ => ⟨S4x64x512, .f32⟩
  | .local _ .vmem, ⟨1, _⟩ => ⟨S4x64x512, .f32⟩
  | .local _ .vmem, ⟨2, _⟩ => ⟨S4x8x64x512, .f32⟩
  | .local _ .vmem, ⟨3, _⟩ => ⟨S4x8x64x512, .f32⟩
  | .local _ .vmem, ⟨4, _⟩ => ⟨S4x8x4x512, .f32⟩
  | .local _ .vmem, ⟨5, _⟩ => ⟨S4x8x4x512, .f32⟩
  | .local _ .vmem, ⟨6, _⟩ => ⟨S4x8x512, .f32⟩
  | .local _ .vmem, ⟨7, _⟩ => ⟨S4x8x512, .f32⟩
  | .local _ .vmem, ⟨8, _⟩ => ⟨S72x64, .f32⟩
  | .local _ .vmem, ⟨9, _⟩ => ⟨S136x64, .f32⟩
  | .local _ .vmem, ⟨10, _⟩ => ⟨S8x4, .f32⟩
  | .local _ .vmem, ⟨11, _⟩ => ⟨S8x512, .f32⟩
  | .local _ .vmem, ⟨12, _⟩ => ⟨S72x8, .f32⟩
  | .local _ .vmem, ⟨13, _⟩ => ⟨S64x512, .f32⟩
  | .local _ .vmem, ⟨14, _⟩ => ⟨S8x512, .f32⟩
  | .local _ .vmem, ⟨15, _⟩ => ⟨S64x8, .f32⟩
  | .local _ .vmem, ⟨16, _⟩ => ⟨S64x512, .f32⟩
  | .local _ .vmem, ⟨17, _⟩ => ⟨S64x64, .f32⟩
  | .local _ .vmem, ⟨18, _⟩ => ⟨S64x512, .f32⟩
  | .local _ .vmem, ⟨19, _⟩ => ⟨S4x64x512, .f32⟩
  | .local _ .vmem, ⟨20, _⟩ => ⟨S4x64x512, .f32⟩
  | .local _ .vmem, ⟨21, _⟩ => ⟨S4x8x64x512, .f32⟩
  | .local _ .vmem, ⟨22, _⟩ => ⟨S4x8x64x512, .f32⟩
  | .local _ .vmem, ⟨23, _⟩ => ⟨S4x64x512, .f32⟩
  | .local _ .vmem, ⟨24, _⟩ => ⟨S4x64x512, .f32⟩
  | .local _ .vmem, ⟨25, _⟩ => ⟨S4x64x512, .f32⟩
  | .local _ .vmem, ⟨26, _⟩ => ⟨S4x64x512, .f32⟩
  | .local _ .vmem, ⟨27, _⟩ => ⟨S8x64x512, .f32⟩
  | .local _ .vmem, ⟨28, _⟩ => ⟨S8x8x512, .f32⟩
  | .local _ .vmem, ⟨29, _⟩ => ⟨S8x8x512, .f32⟩
  | _, _ => ⟨S512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38_0 : Ref sig .tc := ⟨.hbm, 55, rfl⟩
abbrev main_v38_1 : Ref sig .tc := ⟨.hbm, 56, rfl⟩
abbrev main_v38_2 : Ref sig .tc := ⟨.hbm, 57, rfl⟩
abbrev main_v38_3 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S72x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S136x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S72x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4x64x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x8x64x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x64x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x64x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S512x64x64 : Shape := ⟨3, ![512, 64, 64]⟩
abbrev S512x64x8x64 : Shape := ⟨4, ![512, 64, 8, 64]⟩
abbrev S512x64x8x4 : Shape := ⟨4, ![512, 64, 8, 4]⟩
abbrev S512x64x8x1 : Shape := ⟨4, ![512, 64, 8, 1]⟩
abbrev S64x64 : Shape := ⟨2, ![64, 64]⟩
abbrev S4x8 : Shape := ⟨2, ![4, 8]⟩
abbrev S8 : Shape := ⟨1, ![8]⟩
abbrev S8x64 : Shape := ⟨2, ![8, 64]⟩
abbrev S64 : Shape := ⟨1, ![64]⟩
abbrev S64x8 : Shape := ⟨2, ![64, 8]⟩
abbrev S512x64x8 : Shape := ⟨3, ![512, 64, 8]⟩
abbrev S_ : Shape := ⟨0, ![]⟩
abbrev S512x64 : Shape := ⟨2, ![512, 64]⟩
abbrev S512x64x1 : Shape := ⟨3, ![512, 64, 1]⟩
abbrev S512x64x1x64 : Shape := ⟨4, ![512, 64, 1, 64]⟩
abbrev S512x64x8x8 : Shape := ⟨4, ![512, 64, 8, 8]⟩
abbrev S1x1x1x8 : Shape := ⟨4, ![1, 1, 1, 8]⟩
abbrev S1x1x1x64 : Shape := ⟨4, ![1, 1, 1, 64]⟩
abbrev S1x1x64 : Shape := ⟨3, ![1, 1, 64]⟩

abbrev nBuf : Space → Nat
  | .hbm => 151
  | .vmem => 0
  | .smem => 0
  | _ => 0

abbrev hbmTy0_0 (i : Nat) : BufTy := match i % 128 with
  | 0 => ⟨S512x64x64, .f32⟩
  | 1 => ⟨S512x64x8x64, .f32⟩
  | 2 => ⟨S512x64x8x4, .f32⟩
  | 3 => ⟨S512x64x8x1, .i1⟩
  | 4 => ⟨S64x64, .f32⟩
  | 5 => ⟨S64x64, .f32⟩
  | 6 => ⟨S64x64, .f32⟩
  | 7 => ⟨S4x8, .f32⟩
  | 8 => ⟨S8, .f32⟩
  | 9 => ⟨S8x64, .f32⟩
  | 10 => ⟨S64, .f32⟩
  | 11 => ⟨S64x8, .f32⟩
  | 12 => ⟨S8, .f32⟩
  | 13 => ⟨S8x64, .f32⟩
  | 14 => ⟨S64, .f32⟩
  | 15 => ⟨S64x64, .f32⟩
  | 16 => ⟨S64, .f32⟩
  | 17 => ⟨S512x64x64, .f32⟩
  | 18 => ⟨S512x64x8x64, .f32⟩
  | 19 => ⟨S512x64x8x64, .f32⟩
  | 20 => ⟨S512x64x8, .i1⟩
  | 21 => ⟨S512x64x8, .f32⟩
  | 22 => ⟨S_, .f32⟩
  | 23 => ⟨S512x64, .f32⟩
  | 24 => ⟨S_, .f32⟩
  | 25 => ⟨S512x64, .f32⟩
  | 26 => ⟨S512x64, .i1⟩
  | 27 => ⟨S512x64x1, .i1⟩
  | 28 => ⟨S_, .f32⟩
  | 29 => ⟨S_, .f32⟩
  | 30 => ⟨S512x64x8, .i1⟩
  | 31 => ⟨S512x64x8, .f32⟩
  | 32 => ⟨S512x64x8, .f32⟩
  | 33 => ⟨S_, .f32⟩
  | 34 => ⟨S512x64, .f32⟩
  | 35 => ⟨S512x64x8x1, .f32⟩
  | 36 => ⟨S512x64x8x64, .f32⟩
  | 37 => ⟨S512x64x8x64, .f32⟩
  | 38 => ⟨S_, .f32⟩
  | 39 => ⟨S512x64x64, .f32⟩
  | 40 => ⟨S512x64x1, .f32⟩
  | 41 => ⟨S512x64x64, .f32⟩
  | 42 => ⟨S512x64x64, .f32⟩
  | 43 => ⟨S512x64x1x64, .f32⟩
  | 44 => ⟨S512x64x8x64, .f32⟩
  | 45 => ⟨S512x64x8x64, .f32⟩
  | 46 => ⟨S512x64x8x64, .f32⟩
  | 47 => ⟨S512x64x8x64, .f32⟩
  | 48 => ⟨S512x64x8x64, .f32⟩
  | 49 => ⟨S_, .f32⟩
  | 50 => ⟨S512x64x64, .f32⟩
  | 51 => ⟨S512x64x1, .f32⟩
  | 52 => ⟨S_, .f32⟩
  | 53 => ⟨S512x64x1, .f32⟩
  | 54 => ⟨S512x64x1, .f32⟩
  | 55 => ⟨S_, .f32⟩
  | 56 => ⟨S512x64x1, .f32⟩
  | 57 => ⟨S512x64x1, .f32⟩
  | 58 => ⟨S512x64x64, .f32⟩
  | 59 => ⟨S512x64x64, .f32⟩
  | 60 => ⟨S_, .f32⟩
  | 61 => ⟨S512x64, .f32⟩
  | 62 => ⟨S512x64, .i1⟩
  | 63 => ⟨S512x64x1, .i1⟩
  | 64 => ⟨S_, .f32⟩
  | 65 => ⟨S512x64x64, .f32⟩
  | 66 => ⟨S512x64x64, .f32⟩
  | 67 => ⟨S_, .f32⟩
  | 68 => ⟨S_, .f32⟩
  | 69 => ⟨S512x64x64, .i1⟩
  | 70 => ⟨S512x64x64, .f32⟩
  | 71 => ⟨S512x64x64, .f32⟩
  | 72 => ⟨S512x64x64, .f32⟩
  | 73 => ⟨S512x64x8x64, .f32⟩
  | 74 => ⟨S512x64x8x64, .f32⟩
  | 75 => ⟨S512x64x8x64, .f32⟩
  | 76 => ⟨S_, .f32⟩
  | 77 => ⟨S512x64x64, .f32⟩
  | 78 => ⟨S512x64x1, .f32⟩
  | 79 => ⟨S512x64x64, .f32⟩
  | 80 => ⟨S512x64x64, .f32⟩
  | 81 => ⟨S_, .f32⟩
  | 82 => ⟨S_, .f32⟩
  | 83 => ⟨S512x64x64, .i1⟩
  | 84 => ⟨S512x64x64, .f32⟩
  | 85 => ⟨S512x64x64, .f32⟩
  | 86 => ⟨S_, .f32⟩
  | 87 => ⟨S512x64x64, .f32⟩
  | 88 => ⟨S512x64x64, .f32⟩
  | 89 => ⟨S512x64x64, .f32⟩
  | 90 => ⟨S_, .f32⟩
  | 91 => ⟨S_, .f32⟩
  | 92 => ⟨S512x64x64, .i1⟩
  | 93 => ⟨S512x64x64, .f32⟩
  | 94 => ⟨S512x64x64, .f32⟩
  | 95 => ⟨S512x64x8x8, .f32⟩
  | 96 => ⟨S1x1x1x8, .f32⟩
  | 97 => ⟨S512x64x8x8, .f32⟩
  | 98 => ⟨S512x64x8x8, .f32⟩
  | 99 => ⟨S_, .f32⟩
  | 100 => ⟨S512x64x8x8, .f32⟩
  | 101 => ⟨S512x64x8x8, .f32⟩
  | 102 => ⟨S512x64x8x64, .f32⟩
  | 103 => ⟨S1x1x1x64, .f32⟩
  | 104 => ⟨S512x64x8x64, .f32⟩
  | 105 => ⟨S512x64x8x64, .f32⟩
  | 106 => ⟨S512x64x1x64, .f32⟩
  | 107 => ⟨S512x64x8x64, .f32⟩
  | 108 => ⟨S512x64x8x64, .f32⟩
  | 109 => ⟨S512x64x8x64, .f32⟩
  | 110 => ⟨S512x64x8x8, .f32⟩
  | 111 => ⟨S1x1x1x8, .f32⟩
  | 112 => ⟨S512x64x8x8, .f32⟩
  | 113 => ⟨S512x64x8x8, .f32⟩
  | 114 => ⟨S_, .f32⟩
  | 115 => ⟨S512x64x8x8, .f32⟩
  | 116 => ⟨S512x64x8x8, .f32⟩
  | 117 => ⟨S512x64x8x64, .f32⟩
  | 118 => ⟨S1x1x1x64, .f32⟩
  | 119 => ⟨S512x64x8x64, .f32⟩
  | 120 => ⟨S512x64x8x64, .f32⟩
  | 121 => ⟨S_, .f32⟩
  | 122 => ⟨S512x64x8x1, .f32⟩
  | 123 => ⟨S512x64x8x1, .i1⟩
  | 124 => ⟨S_, .f32⟩
  | 125 => ⟨S_, .f32⟩
  | 126 => ⟨S512x64x8x64, .i1⟩
  | 127 => ⟨S512x64x8x64, .f32⟩
  | _ => ⟨S512x64x64, .f32⟩

abbrev hbmTy0_1 (i : Nat) : BufTy := match i % 128 with
  | 0 => ⟨S512x64x8x64, .f32⟩
  | 1 => ⟨S_, .f32⟩
  | 2 => ⟨S512x64x64, .f32⟩
  | 3 => ⟨S_, .f32⟩
  | 4 => ⟨S512x64x64, .f32⟩
  | 5 => ⟨S512x64x64, .f32⟩
  | 6 => ⟨S512x64x1x64, .f32⟩
  | 7 => ⟨S512x64x8x64, .f32⟩
  | 8 => ⟨S512x64x8x64, .f32⟩
  | 9 => ⟨S512x64x8x64, .f32⟩
  | 10 => ⟨S_, .f32⟩
  | 11 => ⟨S512x64x64, .f32⟩
  | 12 => ⟨S512x64x1x64, .f32⟩
  | 13 => ⟨S512x64x8x64, .f32⟩
  | 14 => ⟨S512x64x8x64, .f32⟩
  | 15 => ⟨S512x64x8x64, .f32⟩
  | 16 => ⟨S512x64x8x64, .f32⟩
  | 17 => ⟨S_, .f32⟩
  | 18 => ⟨S512x64x64, .f32⟩
  | 19 => ⟨S512x64x64, .f32⟩
  | 20 => ⟨S1x1x64, .f32⟩
  | 21 => ⟨S512x64x64, .f32⟩
  | 22 => ⟨S512x64x64, .f32⟩
  | _ => ⟨S512x64x64, .f32⟩

abbrev hbmTy (i : Nat) : BufTy := match i / 128 with
  | 0 => hbmTy0_0 i
  | 1 => hbmTy0_1 i
  | _ => ⟨S512x64x64, .f32⟩

abbrev bufTy : (tb : Table) → Fin (tcTables nBuf tb) → BufTy
  | .hbm, ⟨i, _⟩ => hbmTy i
  | _, _ => ⟨S512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_4 : Ref sig .tc := ⟨.hbm, 49, rfl⟩
abbrev main_v24 : Ref sig .tc := ⟨.hbm, 50, rfl⟩
abbrev main_v25 : Ref sig .tc := ⟨.hbm, 51, rfl⟩
abbrev main_cst_5 : Ref sig .tc := ⟨.hbm, 52, rfl⟩
abbrev main_v26 : Ref sig .tc := ⟨.hbm, 53, rfl⟩
abbrev main_v27 : Ref sig .tc := ⟨.hbm, 54, rfl⟩
abbrev main_cst_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_7 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_8 : Ref sig .tc := ⟨.hbm, 64, rfl⟩
abbrev main_v35 : Ref sig .tc := ⟨.hbm, 65, rfl⟩
abbrev main_v36 : Ref sig .tc := ⟨.hbm, 66, rfl⟩
abbrev main_cst_9 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_10 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_11 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v46 : Ref sig .tc := ⟨.hbm, 85, rfl⟩
abbrev main_cst_12 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_13 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_call4_cst : Ref sig .tc := ⟨.hbm, 99, rfl⟩
abbrev main_call4_v0 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_call5_cst : Ref sig .tc := ⟨.hbm, 114, rfl⟩
abbrev main_call5_v0 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_14 : Ref sig .tc := ⟨.hbm, 121, rfl⟩
abbrev main_v73 : Ref sig .tc := ⟨.hbm, 122, rfl⟩
abbrev main_v74 : Ref sig .tc := ⟨.hbm, 123, rfl⟩
abbrev main_cst_15 : Ref sig .tc := ⟨.hbm, 124, rfl⟩
abbrev main_call6_v0 : Ref sig .tc := ⟨.hbm, 125, rfl⟩
abbrev main_call6_v1 : Ref sig .tc := ⟨.hbm, 126, rfl⟩
abbrev main_call6_v2 : Ref sig .tc := ⟨.hbm, 127, rfl⟩
abbrev main_v75 : Ref sig .tc := ⟨.hbm, 128, rfl⟩
abbrev main_cst_16 : Ref sig .tc := ⟨.hbm, 129, rfl⟩
abbrev main_v76 : Ref sig .tc := ⟨.hbm, 130, rfl⟩
abbrev main_cst_17 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_18 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_cst_19 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩

abbrev nD : Nat := 1
abbrev τ : Topo := Topo.v7x

variable {F : FTy → Type} [FloatOps F]
-- ==== Proof.Model.lean ====
/- The mathematics of one ray and one sample, over the reals: masked statistics of the projected source features
   and the additive attention over the eight source views. Both programs are shown to compute these numbers. -/
module

public import Idealize.ShloMosaic.PureOps.Ideal
public import Mathlib.Data.EReal.Operations
public import Mathlib.Data.EReal.Inv
public import Mathlib.Analysis.SpecialFunctions.Pow.Real
public import Mathlib.Tactic.FieldSimp
public import Mathlib.Tactic.Linarith
public import Mathlib.Tactic.Ring
public import Mathlib.Tactic.Positivity
public import Mathlib.Tactic.NormNum

@[expose] public section

noncomputable section

namespace Cert.Model

open Idealize.ShloMosaic
open scoped BigOperators

/-- What the statistics and the attention of one ray and one sample are computed from, as real numbers. -/
structure In where
  q : Fin 64 → ℝ
  k : Fin 8 → Fin 64 → ℝ
  p : Fin 8 → Fin 4 → ℝ
  valid : Fin 8 → Prop
  Wq : Fin 64 → Fin 64 → ℝ
  Wk : Fin 64 → Fin 64 → ℝ
  Wp1 : Fin 4 → Fin 8 → ℝ
  bp1 : Fin 8 → ℝ
  Wp2 : Fin 8 → Fin 64 → ℝ
  bp2 : Fin 64 → ℝ
  Wa1 : Fin 64 → Fin 8 → ℝ
  ba1 : Fin 8 → ℝ
  Wa2 : Fin 8 → Fin 64 → ℝ
  ba2 : Fin 64 → ℝ

namespace In

open Classical

variable (I : In)

/-- A view's validity as the number 0 or 1. -/
def μ (n : Fin 8) : ℝ := if I.valid n then 1 else 0
/-- The projected query. -/
def qf (d : Fin 64) : ℝ := ∑ j, I.q j * I.Wq j d
/-- The projected key of view `n`. -/
def kf (n : Fin 8) (d : Fin 64) : ℝ := ∑ j, I.k n j * I.Wk j d
/-- How many views are valid. -/
def cnt : ℝ := ∑ n, I.μ n
/-- The views' weights: all one when no view is valid. -/
def w (n : Fin 8) : ℝ := if I.cnt = 0 then 1 else I.μ n
/-- The number of views that count. -/
def c : ℝ := if I.cnt = 0 then 8 else I.cnt
/-- The sum of the keys that count. -/
def swk (d : Fin 64) : ℝ := ∑ n, I.kf n d * I.w n
/-- Their mean. -/
def mean (d : Fin 64) : ℝ := I.swk d / I.c
/-- Their variance, over the count less one. -/
def var (d : Fin 64) : ℝ := (∑ n, (I.kf n d - I.mean d) ^ 2 * I.w n) / max (I.c - 1) 1
/-- The standard deviation, one where a single view counts. -/
def std (d : Fin 64) : ℝ := Real.sqrt (if I.c = 1 then 1 else max (I.var d) 0)
/-- The mean of the absolute values. -/
def mabs (d : Fin 64) : ℝ := (∑ n, |I.kf n d| * I.w n) / I.c
/-- The hidden layer of the positional encoding. -/
def ph (n : Fin 8) (h : Fin 8) : ℝ := max (∑ j, I.p n j * I.Wp1 j h + I.bp1 h) 0
/-- The positional encoding. -/
def posf (n : Fin 8) (d : Fin 64) : ℝ := ∑ h, I.ph n h * I.Wp2 h d + I.bp2 d
/-- The hidden layer of the attention. -/
def a1 (n : Fin 8) (h : Fin 8) : ℝ := max (∑ d, (I.kf n d - I.qf d + I.posf n d) * I.Wa1 d h + I.ba1 h) 0
/-- The attention's logits. -/
def logit (n : Fin 8) (d : Fin 64) : ℝ := ∑ h, I.a1 n h * I.Wa2 h d + I.ba2 d
/-- The logit that enters the maximum: minus infinity at a view of weight zero. -/
def ml (n : Fin 8) (d : Fin 64) : EReal := if I.w n = 0 then ⊥ else (I.logit n d : EReal)
/-- The maximum of the logits that count. -/
def mx (d : Fin 64) : ℝ := (Finset.univ.sup fun n => I.ml n d).toReal
/-- The exponentials. -/
def e (n : Fin 8) (d : Fin 64) : ℝ := if I.w n = 0 then 0 else Real.exp (I.logit n d - I.mx d)
/-- Their sum. -/
def esum (d : Fin 64) : ℝ := ∑ n, I.e n d
/-- The attention weights. -/
def attn (n : Fin 8) (d : Fin 64) : ℝ := I.e n d / I.esum d

theorem μ_nonneg (n : Fin 8) : 0 ≤ I.μ n := by unfold μ; split <;> norm_num

theorem μ_zero_or_one (n : Fin 8) : I.μ n = 0 ∨ I.μ n = 1 := by unfold μ; split <;> simp

theorem w_nonneg (n : Fin 8) : 0 ≤ I.w n := by unfold w; split; · norm_num
                                               · exact I.μ_nonneg n

/-- The count that the weights sum to is the count with the empty case replaced by eight. -/
theorem sum_w : ∑ n, I.w n = I.c := by
  unfold w c
  by_cases h : I.cnt = 0
  · simp [h]
  · simp only [h, if_false]; rfl

theorem cnt_nonneg : 0 ≤ I.cnt := Finset.sum_nonneg fun n _ => I.μ_nonneg n

theorem c_pos : 0 < I.c := by
  unfold c; split
  · norm_num
  · rename_i h; exact lt_of_le_of_ne I.cnt_nonneg (Ne.symm h)

theorem cm1_pos : 0 < max (I.c - 1) 1 := lt_of_lt_of_le one_pos (le_max_right _ _)

/-- Some view has a weight that is not zero. -/
theorem exists_w : ∃ n, I.w n ≠ 0 := by
  by_contra hne
  have h0 : ∀ n, I.w n = 0 := fun n => by
    by_contra hh; exact hne ⟨n, hh⟩
  have h := I.sum_w
  simp [h0] at h
  exact absurd h.symm I.c_pos.ne'

/-- The maximum of the logits that count is a real number. -/
theorem sup_ml (d : Fin 64) : (Finset.univ.sup fun n => I.ml n d) = (I.mx d : EReal) := by
  obtain ⟨n0, hn0⟩ := I.exists_w
  unfold mx
  refine (EReal.coe_toReal ?_ ?_).symm
  · intro h
    have hlt : (Finset.univ.sup fun n => I.ml n d) < ⊤ := by
      rw [Finset.sup_lt_iff (by simp)]
      intro n _
      unfold ml
      split
      · simp
      · exact EReal.coe_lt_top _
    exact absurd h hlt.ne
  · intro h
    have h1 := Finset.le_sup (f := fun n => I.ml n d) (Finset.mem_univ n0)
    rw [h] at h1
    simp [ml, hn0] at h1

theorem e_nonneg (n : Fin 8) (d : Fin 64) : 0 ≤ I.e n d := by
  unfold e; split; · exact le_rfl
  · exact (Real.exp_pos _).le

theorem esum_pos (d : Fin 64) : 0 < I.esum d := by
  obtain ⟨n0, hn0⟩ := I.exists_w
  unfold esum
  refine Finset.sum_pos' (fun n _ => I.e_nonneg n d) ⟨n0, Finset.mem_univ _, ?_⟩
  unfold e; rw [if_neg hn0]; exact Real.exp_pos _

/-- The one-pass form of the variance: the sum of squares less the sum times the mean. -/
theorem var_eq (d : Fin 64) :
    ((∑ n, I.kf n d * (I.kf n d * I.w n)) - I.swk d * (I.swk d * (1 / I.c))) * (1 / max (I.c - 1) 1) = I.var d := by
  unfold var
  rw [mul_one_div]
  congr 1
  have hc := I.c_pos.ne'
  have h1 : ∀ n, (I.kf n d - I.mean d) ^ 2 * I.w n
      = I.kf n d * (I.kf n d * I.w n) - 2 * I.mean d * (I.kf n d * I.w n) + I.mean d ^ 2 * I.w n := fun n => by ring
  simp only [h1, Finset.sum_add_distrib, Finset.sum_sub_distrib, ← Finset.mul_sum, I.sum_w]
  change _ = _ - 2 * I.mean d * I.swk d + _
  unfold mean
  field_simp
  ring

/-- The attention's hidden layer with the two matrix products fused, as the kernel computes it. -/
theorem a1_eq (n : Fin 8) (h : Fin 8) :
    max ((∑ j, (∑ d, I.Wa1 d h * I.Wk j d) * I.k n j) - (∑ j, (∑ d, I.Wa1 d h * I.Wq j d) * I.q j)
      + (∑ g, (∑ d, I.Wa1 d h * I.Wp2 g d) * I.ph n g) + ((∑ d, I.Wa1 d h * I.bp2 d) + I.ba1 h)) 0 = I.a1 n h := by
  unfold a1
  congr 1
  have e1 : (∑ j, (∑ d, I.Wa1 d h * I.Wk j d) * I.k n j) = ∑ d, I.kf n d * I.Wa1 d h := by
    simp only [kf, Finset.sum_mul]
    rw [Finset.sum_comm]
    exact Finset.sum_congr rfl fun d _ => Finset.sum_congr rfl fun j _ => by ring
  have e2 : (∑ j, (∑ d, I.Wa1 d h * I.Wq j d) * I.q j) = ∑ d, I.qf d * I.Wa1 d h := by
    simp only [qf, Finset.sum_mul]
    rw [Finset.sum_comm]
    exact Finset.sum_congr rfl fun d _ => Finset.sum_congr rfl fun j _ => by ring
  have e3 : (∑ g, (∑ d, I.Wa1 d h * I.Wp2 g d) * I.ph n g) = ∑ d, (∑ g, I.ph n g * I.Wp2 g d) * I.Wa1 d h := by
    simp only [Finset.sum_mul]
    rw [Finset.sum_comm]
    exact Finset.sum_congr rfl fun d _ => Finset.sum_congr rfl fun j _ => by ring
  rw [e1, e2, e3]
  have e4 : ∀ d, (I.kf n d - I.qf d + I.posf n d) * I.Wa1 d h
      = I.kf n d * I.Wa1 d h - I.qf d * I.Wa1 d h + ((∑ g, I.ph n g * I.Wp2 g d) * I.Wa1 d h + I.Wa1 d h * I.bp2 d) :=
    fun d => by unfold posf; ring
  simp only [e4, Finset.sum_add_distrib, Finset.sum_sub_distrib]
  ring

end In

/-- A finite sum of real numbers, cast. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A non-negative real factor goes inside a sum of extended reals. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

theorem div_coe' (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem exp_coe' (x : ℝ) : Ideal.exp (x : EReal) = (Real.exp x : EReal) := rfl

theorem sqrt_coe' (x : ℝ) (hx : 0 ≤ x) : Ideal.sqrt (x : EReal) = (Real.sqrt x : EReal) := by
  show (if x < 0 then (⊥ : EReal) else (Real.sqrt x : EReal)) = _
  rw [if_neg (not_lt.mpr hx)]

end Cert.Model

end
-- ==== Proof.Args.lean ====
/- The arguments of the two programs whose values must be finite, as real arrays, and the numbers of one ray and one
   sample read out of them. -/
module

public import proofs.«01_k».proof.Proof.Model
public import Idealize.ShloMosaic.Lib.Pointwise
public import Idealize.ShloMosaic.PureOps.Ideal

@[expose] public section

noncomputable section

namespace Cert.Model

open Idealize.ShloMosaic

/-- The finite arguments as real arrays, and the mask. -/
structure Args where
  a0 : (⟨3, ![512, 64, 64]⟩ : Shape).Idx → ℝ
  a1 : (⟨4, ![512, 64, 8, 64]⟩ : Shape).Idx → ℝ
  a2 : (⟨4, ![512, 64, 8, 4]⟩ : Shape).Idx → ℝ
  x3 : (⟨4, ![512, 64, 8, 1]⟩ : Shape).Idx → BitVec 1
  a4 : (⟨2, ![64, 64]⟩ : Shape).Idx → ℝ
  a5 : (⟨2, ![64, 64]⟩ : Shape).Idx → ℝ
  a7 : (⟨2, ![4, 8]⟩ : Shape).Idx → ℝ
  a8 : (⟨1, ![8]⟩ : Shape).Idx → ℝ
  a9 : (⟨2, ![8, 64]⟩ : Shape).Idx → ℝ
  a10 : (⟨1, ![64]⟩ : Shape).Idx → ℝ
  a11 : (⟨2, ![64, 8]⟩ : Shape).Idx → ℝ
  a12 : (⟨1, ![8]⟩ : Shape).Idx → ℝ
  a13 : (⟨2, ![8, 64]⟩ : Shape).Idx → ℝ
  a14 : (⟨1, ![64]⟩ : Shape).Idx → ℝ

/-- A real array as an array of extended reals. -/
def up {ι : Type} (a : ι → ℝ) : ι → EReal := fun i => (a i : EReal)

theorem up_apply {ι : Type} (a : ι → ℝ) (i : ι) : up a i = (a i : EReal) := rfl

/-- The numbers of ray `r` and sample `s`. -/
def Args.at (A : Args) (r : Fin 512) (s : Fin 64) : In where
  q j := A.a0 (ix3 r s j)
  k n j := A.a1 (ix4 r s n j)
  p n j := A.a2 (ix4 r s n j)
  valid n := A.x3 (ix4 r s n 0) = 1#1
  Wq i j := A.a4 (ix2 i j)
  Wk i j := A.a5 (ix2 i j)
  Wp1 i j := A.a7 (ix2 i j)
  bp1 i := A.a8 (ix1 i)
  Wp2 i j := A.a9 (ix2 i j)
  bp2 i := A.a10 (ix1 i)
  Wa1 i j := A.a11 (ix2 i j)
  ba1 i := A.a12 (ix1 i)
  Wa2 i j := A.a13 (ix2 i j)
  ba2 i := A.a14 (ix1 i)

open Classical in
/-- The deviation reported for a channel: zero for a row with one source view. -/
def In.kstd (I : In) (d : Fin 64) : EReal := if I.c = 1 then 0 else (I.std d : EReal)

open Classical in
/-- The normalised deviation reported for a channel: zero for a row with one source view. -/
def In.nkstd (I : In) (d : Fin 64) : EReal :=
  if I.c = 1 then 0 else Ideal.div (I.std d : EReal) ((I.mabs d : EReal) + Ideal.ofBits .f32 0x358637BD#32)

/-- A value projection of a source view; the weights are any extended reals. -/
def Args.vf (A : Args) (x6 : (⟨2, ![64, 64]⟩ : Shape).Idx → EReal) (r : Fin 512) (s : Fin 64) (n : Fin 8) (d : Fin 64) : EReal :=
  ∑ j : Fin 64, ((A.at r s).k n j : EReal) * x6 (ix2 j d)

/-- The attended value of a channel. -/
def Args.xa (A : Args) (x6 : (⟨2, ![64, 64]⟩ : Shape).Idx → EReal) (r : Fin 512) (s : Fin 64) (d : Fin 64) : EReal :=
  ∑ n : Fin 8, (A.vf x6 r s n d + ((A.at r s).posf n d : EReal)) * ((A.at r s).attn n d : EReal)

/-- The first result at an index. -/
def Args.x (A : Args) (x6 x15 : (⟨2, ![64, 64]⟩ : Shape).Idx → EReal) (x16 : (⟨1, ![64]⟩ : Shape).Idx → EReal)
    (r : Fin 512) (s : Fin 64) (o : Fin 64) : EReal :=
  ∑ d : Fin 64, A.xa x6 r s d * x15 (ix2 d o) + x16 (ix1 o)

end Cert.Model

end
-- ==== Proof.Ops.lean ====
/- Extended-real forms of the operations at real arguments. -/
module

public import proofs.«01_k».proof.Proof.Args
public import Idealize.ShloMosaic.Lib.IdealHost

@[expose] public section

noncomputable section

namespace Cert.Model

open Idealize.ShloMosaic

/-- The maximum of two reals is the maximum of their extended reals. -/
theorem max_coe (x y : ℝ) : max (x : EReal) (y : EReal) = ((max x y : ℝ) : EReal) :=
  (EReal.coe_strictMono.monotone.map_max).symm

/-- The maximum of a real and zero. -/
theorem max_coe_zero (x : ℝ) : max (x : EReal) 0 = ((max x 0 : ℝ) : EReal) := max_coe x 0

/-- The maximum of a real and one. -/
theorem max_coe_one (x : ℝ) : max (x : EReal) 1 = ((max x 1 : ℝ) : EReal) := max_coe x 1

/-- A real less one. -/
theorem sub_coe_one (x : ℝ) : (x : EReal) - 1 = ((x - 1 : ℝ) : EReal) := rfl

/-- The absolute value of a real. -/
theorem abs_coe (x : ℝ) : FloatOps.absf (F := Ideal) (φ := .f32) (x : EReal) = ((|x| : ℝ) : EReal) :=
  (max_coe x (-x))

/-- A truth value converted to a number is one exactly when it holds. -/
theorem uitofp_bit (b : BitVec 1) [Decidable (b = 1#1)] :
    FloatOps.uitofp (F := Ideal) .f32 b = (((if b = 1#1 then 1 else 0 : ℝ)) : EReal) := by
  show ((b.toNat : ℝ) : EReal) = _
  have h : b = 0#1 ∨ b = 1#1 := by
    rcases b with ⟨⟨v, hv⟩⟩
    have : v = 0 ∨ v = 1 := by omega
    rcases this with rfl | rfl
    · exact Or.inl rfl
    · exact Or.inr rfl
  rcases h with rfl | rfl <;> simp

/-- The word of minus infinity. -/
theorem ofBits_bot : Ideal.ofBits .f32 0xFF800000#32 = ⊥ := by
  simp [Ideal.ofBits, Ideal.ieee]

/-- The word of eight. -/
theorem ofBits_eight : Ideal.ofBits .f32 0x41000000#32 = ((8 : ℝ) : EReal) := by
  simp [Ideal.ofBits, Ideal.ieee]
  rw [← EReal.coe_mul]; norm_num

/-- Folding the maximum from the bottom is the supremum. -/
theorem fold_max_eq_sup {ι : Type} (s : Finset ι) (f : ι → EReal) : Finset.fold max ⊥ f s = s.sup f := rfl

/-- One over a nonzero real. -/
theorem one_div_coe (y : ℝ) (hy : y ≠ 0) : Ideal.div 1 (y : EReal) = ((1 / y : ℝ) : EReal) := div_coe' 1 y hy

/-- The exponential of minus infinity less a real is zero. -/
theorem exp_bot_sub (y : ℝ) : Ideal.exp (⊥ - (y : EReal)) = 0 := rfl

/-- A real less a real, under the exponential. -/
theorem exp_sub_coe (x y : ℝ) : Ideal.exp ((x : EReal) - (y : EReal)) = ((Real.exp (x - y) : ℝ) : EReal) := rfl

/-- The number of valid views, added up from the first. -/
theorem cnt_fold (I : In) : I.μ 0 + I.μ 1 + I.μ 2 + I.μ 3 + I.μ 4 + I.μ 5 + I.μ 6 + I.μ 7 = I.cnt :=
  (Fin.sum_univ_eight _).symm

/-- The effective count. -/
theorem c_fold (I : In) [Decidable ((I.cnt : EReal) = 0)] :
    (if (I.cnt : EReal) = 0 then ((8 : ℝ) : EReal) else (I.cnt : EReal)) = (I.c : EReal) := by
  unfold In.c
  by_cases h : I.cnt = 0
  · rw [if_pos (by exact_mod_cast h), if_pos h]
  · rw [if_neg (by exact_mod_cast h), if_neg h]

/-- A view's weight. -/
theorem w_fold (I : In) (n : Fin 8) [Decidable ((I.cnt : EReal) = 0)] :
    (if (I.cnt : EReal) = 0 then (1 : EReal) else (I.μ n : EReal)) = (I.w n : EReal) := by
  unfold In.w
  by_cases h : I.cnt = 0
  · rw [if_pos (by exact_mod_cast h), if_pos h]; rfl
  · rw [if_neg (by exact_mod_cast h), if_neg h]

/-- A masked logit. -/
theorem ml_fold (I : In) (n : Fin 8) (d : Fin 64) [Decidable ((I.w n : EReal) = 0)] :
    (if (I.w n : EReal) = 0 then (⊥ : EReal) else (I.logit n d : EReal)) = I.ml n d := by
  unfold In.ml
  by_cases h : I.w n = 0
  · rw [if_pos (by exact_mod_cast h), if_pos h]
  · rw [if_neg (by exact_mod_cast h), if_neg h]

/-- The largest masked logit, taken from the first on. -/
theorem mx_fold (I : In) (d : Fin 64) :
    max (max (max (max (max (max (max (I.ml 0 d) (I.ml 1 d)) (I.ml 2 d)) (I.ml 3 d)) (I.ml 4 d)) (I.ml 5 d)) (I.ml 6 d)) (I.ml 7 d)
      = (I.mx d : EReal) := by
  rw [← I.sup_ml d]
  apply le_antisymm
  · simp only [max_le_iff]
    refine ⟨⟨⟨⟨⟨⟨⟨?_, ?_⟩, ?_⟩, ?_⟩, ?_⟩, ?_⟩, ?_⟩, ?_⟩ <;> exact Finset.le_sup (f := fun n => I.ml n d) (Finset.mem_univ _)
  · refine Finset.sup_le fun n _ => ?_
    fin_cases n <;> simp

/-- An exponential weight. -/
theorem e_fold (I : In) (n : Fin 8) (d : Fin 64) [Decidable ((I.w n : EReal) = 0)] :
    (if (I.w n : EReal) = 0 then (0 : EReal) else ((Real.exp (I.logit n d - I.mx d) : ℝ) : EReal)) = (I.e n d : EReal) := by
  unfold In.e
  by_cases h : I.w n = 0
  · rw [if_pos (by exact_mod_cast h), if_pos h]; rfl
  · rw [if_neg (by exact_mod_cast h), if_neg h]

/-- An exponential weight, its exponent taken as one real. -/
theorem e_fold' (I : In) (n : Fin 8) (d : Fin 64) [Decidable ((I.w n : EReal) = 0)] :
    (if (I.w n : EReal) = 0 then (0 : EReal) else Ideal.exp ((I.logit n d - I.mx d : ℝ) : EReal)) = (I.e n d : EReal) :=
  e_fold I n d

/-- The sum of the exponential weights, added up from the first. -/
theorem esum_fold (I : In) (d : Fin 64) : I.e 0 d + I.e 1 d + I.e 2 d + I.e 3 d + I.e 4 d + I.e 5 d + I.e 6 d + I.e 7 d = I.esum d := by
  unfold In.esum
  rw [Fin.sum_univ_eight]

/-- An attention weight is an exponential weight times the inverse of their sum. -/
theorem attn_fold (I : In) (n : Fin 8) (d : Fin 64) : I.e n d * (1 / I.esum d) = I.attn n d := by
  unfold In.attn; ring

/-- The variance in one pass over the views. -/
theorem var_fold (I : In) (d : Fin 64) :
    ((I.kf 0 d * (I.kf 0 d * I.w 0) + I.kf 1 d * (I.kf 1 d * I.w 1) + I.kf 2 d * (I.kf 2 d * I.w 2) + I.kf 3 d * (I.kf 3 d * I.w 3)
        + I.kf 4 d * (I.kf 4 d * I.w 4) + I.kf 5 d * (I.kf 5 d * I.w 5) + I.kf 6 d * (I.kf 6 d * I.w 6) + I.kf 7 d * (I.kf 7 d * I.w 7))
      - (I.kf 0 d * I.w 0 + I.kf 1 d * I.w 1 + I.kf 2 d * I.w 2 + I.kf 3 d * I.w 3 + I.kf 4 d * I.w 4 + I.kf 5 d * I.w 5 + I.kf 6 d * I.w 6 + I.kf 7 d * I.w 7)
        * ((I.kf 0 d * I.w 0 + I.kf 1 d * I.w 1 + I.kf 2 d * I.w 2 + I.kf 3 d * I.w 3 + I.kf 4 d * I.w 4 + I.kf 5 d * I.w 5 + I.kf 6 d * I.w 6 + I.kf 7 d * I.w 7)
          * (1 / I.c))) * (1 / max (I.c - 1) 1) = I.var d := by
  have h1 := I.var_eq d
  unfold In.swk at h1
  rw [Fin.sum_univ_eight, Fin.sum_univ_eight] at h1
  exact h1

/-- The mean of the absolute values, the weights inside. -/
theorem mabs_fold (I : In) (d : Fin 64) :
    (|I.kf 0 d * I.w 0| + |I.kf 1 d * I.w 1| + |I.kf 2 d * I.w 2| + |I.kf 3 d * I.w 3| + |I.kf 4 d * I.w 4| + |I.kf 5 d * I.w 5|
      + |I.kf 6 d * I.w 6| + |I.kf 7 d * I.w 7|) * (1 / I.c) = I.mabs d := by
  unfold In.mabs
  rw [Fin.sum_univ_eight]
  simp only [abs_mul, abs_of_nonneg (I.w_nonneg _)]
  ring

/-- The deviation from the count and the variance. -/
theorem std_fold (I : In) (d : Fin 64) [Decidable ((I.c : EReal) = 1)] :
    Ideal.sqrt (if (I.c : EReal) = 1 then (1 : EReal) else ((max (I.var d) 0 : ℝ) : EReal)) = (I.std d : EReal) := by
  unfold In.std
  by_cases h : I.c = 1
  · rw [if_pos (by exact_mod_cast h), if_pos h]
    exact sqrt_coe' 1 zero_le_one
  · rw [if_neg (by exact_mod_cast h), if_neg h]
    exact sqrt_coe' _ (le_max_right _ _)

/-- The reported deviation. -/
theorem kstd_fold (I : In) (d : Fin 64) [Decidable ((I.c : EReal) = 1)] :
    (if (I.c : EReal) = 1 then (0 : EReal) else (I.std d : EReal)) = I.kstd d := by
  unfold In.kstd
  by_cases h : I.c = 1
  · rw [if_pos (by exact_mod_cast h), if_pos h]
  · rw [if_neg (by exact_mod_cast h), if_neg h]

/-- The reported normalised deviation. -/
theorem nkstd_fold (I : In) (d : Fin 64) [Decidable ((I.c : EReal) = 1)] :
    (if (I.c : EReal) = 1 then (0 : EReal)
      else Ideal.div (I.std d : EReal) ((I.mabs d : EReal) + Ideal.ofBits .f32 0x358637BD#32)) = I.nkstd d := by
  unfold In.nkstd
  by_cases h : I.c = 1
  · rw [if_pos (by exact_mod_cast h), if_pos h]
  · rw [if_neg (by exact_mod_cast h), if_neg h]

end Cert.Model

end
-- ==== Proof.KSetup.lean ====
/- One grid point of the kernel: four samples by 512 rays. What the input blocks hold, the loads read at an index, and the
   real identities between the kernel's forms and the model's. -/
module

public import proofs.«01_k».proof.Proof.Ops
public import proofs.«01_k».proof.Proof.Gen.KernelIdeal.Points
public import Idealize.ShloMosaic.Lib.Pipeline.ReadBack
public import Idealize.ShloMosaic.Lib.Pipeline.FrameBody
public import Idealize.ShloMosaic.Lib.WholeRead

@[expose] public section

set_option maxRecDepth 16384

noncomputable section

namespace Cert.KVal

open Idealize.ShloMosaic Idealize.ShloMosaic.TcCoe Cert.Model Cert.KernelIdeal Cert.KernelIdeal.Gen

/-- The numbers of four samples by 512 rays: the shared weights, and each one's query, keys, positions and mask. -/
structure Tile where
  W : In
  Q : Fin 4 → Fin 512 → Fin 64 → ℝ
  K : Fin 4 → Fin 512 → Fin 8 → Fin 64 → ℝ
  P : Fin 4 → Fin 512 → Fin 8 → Fin 4 → ℝ
  M : Fin 4 → Fin 512 → Fin 8 → Prop

/-- The numbers of one sample and one ray of the tile. -/
def Tile.J (T : Tile) (s : Fin 4) (r : Fin 512) : In :=
  { T.W with q := T.Q s r, k := T.K s r, p := T.P s r, valid := T.M s r }

/-- What the fifteen input blocks hold. -/
structure Tile.Holds (T : Tile) (x0 : Vec Ideal S4x64x512 .f32) (x1 : Vec Ideal S4x8x64x512 .f32)
    (x2 : Vec Ideal S4x8x4x512 .f32) (x3 : Vec Ideal S4x8x512 .f32) (x4 : Vec Ideal S72x64 .f32)
    (x5 : Vec Ideal S136x64 .f32) (x6 : Vec Ideal S8x4 .f32) (x7 : Vec Ideal S8x512 .f32)
    (x8 : Vec Ideal S72x8 .f32) (x9 : Vec Ideal S64x512 .f32) (x10 : Vec Ideal S8x512 .f32)
    (x11 : Vec Ideal S64x8 .f32) (x12 : Vec Ideal S64x512 .f32) : Prop where
  q : ∀ s j r, x0 (ix3 s j r) = (T.Q s r j : EReal)
  k : ∀ s n j r, x1 (ix4 s n j r) = (T.K s r n j : EReal)
  p : ∀ s n g r, x2 (ix4 s n g r) = (T.P s r n g : EReal)
  μ : ∀ s n r, x3 (ix3 s n r) = ((T.J s r).μ n : EReal)
  wq : ∀ (h : Fin 8) (j : Fin 64) (hi : 64 + h.val < 72), x4 (ix2 ⟨64 + h.val, hi⟩ j) = ((∑ d, T.W.Wa1 d h * T.W.Wq j d : ℝ) : EReal)
  wk : ∀ (d j : Fin 64) (hi : d.val < 136), x5 (ix2 ⟨d.val, hi⟩ j) = (T.W.Wk j d : EReal)
  wak : ∀ (h : Fin 8) (j : Fin 64) (hi : 128 + h.val < 136), x5 (ix2 ⟨128 + h.val, hi⟩ j) = ((∑ d, T.W.Wa1 d h * T.W.Wk j d : ℝ) : EReal)
  wp1 : ∀ h g, x6 (ix2 h g) = (T.W.Wp1 g h : EReal)
  bp1 : ∀ h (r : Fin 512), x7 (ix2 h r) = (T.W.bp1 h : EReal)
  wp2 : ∀ (d : Fin 64) (g : Fin 8) (hi : d.val < 72), x8 (ix2 ⟨d.val, hi⟩ g) = (T.W.Wp2 g d : EReal)
  wap : ∀ (h : Fin 8) (g : Fin 8) (hi : 64 + h.val < 72), x8 (ix2 ⟨64 + h.val, hi⟩ g) = ((∑ d, T.W.Wa1 d h * T.W.Wp2 g d : ℝ) : EReal)
  bp2 : ∀ d (r : Fin 512), x9 (ix2 d r) = (T.W.bp2 d : EReal)
  ba1 : ∀ h (r : Fin 512), x10 (ix2 h r) = (((∑ d, T.W.Wa1 d h * T.W.bp2 d) + T.W.ba1 h : ℝ) : EReal)
  wa2 : ∀ d h, x11 (ix2 d h) = (T.W.Wa2 h d : EReal)
  ba2 : ∀ d (r : Fin 512), x12 (ix2 d r) = (T.W.ba2 d : EReal)

/-- A value projection. -/
def Tile.vp0 (T : Tile) (x5 : Vec Ideal S136x64 .f32) (s : Fin 4) (r : Fin 512) (n : Fin 8) (d : Fin 64) : EReal :=
  ∑ j : Fin 64, x5 (ix2 (⟨64 + d.val, by omega⟩ : Fin 136) j) * (T.K s r n j : EReal)

/-- A value with its position number. -/
def Tile.vp (T : Tile) (x5 : Vec Ideal S136x64 .f32) (s : Fin 4) (r : Fin 512) (n : Fin 8) (d : Fin 64) : EReal :=
  T.vp0 x5 s r n d + ((T.J s r).posf n d : EReal)

/-- An output number: the values weighted by the exponential weights, by the inverse of their sum, through the last weights. -/
def Tile.x (T : Tile) (x5 : Vec Ideal S136x64 .f32) (x13 : Vec Ideal S64x64 .f32) (x14 : Vec Ideal S64x512 .f32)
    (s : Fin 4) (r : Fin 512) (o : Fin 64) : EReal :=
  (∑ d, x13 (ix2 o d) * ((∑ n, T.vp x5 s r n d * ((T.J s r).e n d : EReal)) * ((1 / (T.J s r).esum d : ℝ) : EReal))) + x14 (ix2 o r)

/-! The loads of a whole block's rectangles, read at an index. -/

section Loads

variable {S : Shape} {s n : ℕ}

theorem ld0 {m : Memref sig .tc .vmem S4x64x512 .f32} (h : m.IsWhole) (x : Vec Ideal S4x64x512 .f32)
    (inb : ∀ a, (![s, 0, 0] : Fin 3 → ℕ) a + (![1, 64, 512] : Fin 3 → ℕ) a ≤ S4x64x512.size a) (j : Fin 64) (r : Fin 512) :
    View.readAt (Elt Ideal) m.view (Rect.unit (s := S4x64x512) ![s, 0, 0] ![1, 64, 512] inb).toLoadRect (h.unread x) (ix3 0 j r : (⟨3, ![1, 64, 512]⟩ : Shape).Idx)
      = x (ix3 ⟨s, inb 0⟩ j r) := by
  rw [h.readAt_unread]; congr 1; funext a; apply Fin.ext; fin_cases a <;> simp [LoadRect.idx, Rect.unit, Rect.toLoadRect]

theorem ld1 {m : Memref sig .tc .vmem S4x8x64x512 .f32} (h : m.IsWhole) (x : Vec Ideal S4x8x64x512 .f32)
    (inb : ∀ a, (![s, n, 0, 0] : Fin 4 → ℕ) a + (![1, 1, 64, 512] : Fin 4 → ℕ) a ≤ S4x8x64x512.size a) (j : Fin 64) (r : Fin 512) :
    View.readAt (Elt Ideal) m.view (Rect.unit (s := S4x8x64x512) ![s, n, 0, 0] ![1, 1, 64, 512] inb).toLoadRect (h.unread x) (ix4 0 0 j r : (⟨4, ![1, 1, 64, 512]⟩ : Shape).Idx)
      = x (ix4 ⟨s, inb 0⟩ ⟨n, inb 1⟩ j r) := by
  rw [h.readAt_unread]; congr 1; funext a; apply Fin.ext; fin_cases a <;> simp [LoadRect.idx, Rect.unit, Rect.toLoadRect]

theorem ld2 {m : Memref sig .tc .vmem S4x8x4x512 .f32} (h : m.IsWhole) (x : Vec Ideal S4x8x4x512 .f32)
    (inb : ∀ a, (![s, n, 0, 0] : Fin 4 → ℕ) a + (![1, 1, 4, 512] : Fin 4 → ℕ) a ≤ S4x8x4x512.size a) (j : Fin 4) (r : Fin 512) :
    View.readAt (Elt Ideal) m.view (Rect.unit (s := S4x8x4x512) ![s, n, 0, 0] ![1, 1, 4, 512] inb).toLoadRect (h.unread x) (ix4 0 0 j r : (⟨4, ![1, 1, 4, 512]⟩ : Shape).Idx)
      = x (ix4 ⟨s, inb 0⟩ ⟨n, inb 1⟩ j r) := by
  rw [h.readAt_unread]; congr 1; funext a; apply Fin.ext; fin_cases a <;> simp [LoadRect.idx, Rect.unit, Rect.toLoadRect]

theorem ld3 {m : Memref sig .tc .vmem S4x8x512 .f32} (h : m.IsWhole) (x : Vec Ideal S4x8x512 .f32)
    (inb : ∀ a, (![s, n, 0] : Fin 3 → ℕ) a + (![1, 1, 512] : Fin 3 → ℕ) a ≤ S4x8x512.size a) (r : Fin 512) :
    View.readAt (Elt Ideal) m.view (Rect.unit (s := S4x8x512) ![s, n, 0] ![1, 1, 512] inb).toLoadRect (h.unread x) (ix3 0 0 r : (⟨3, ![1, 1, 512]⟩ : Shape).Idx)
      = x (ix3 ⟨s, inb 0⟩ ⟨n, inb 1⟩ r) := by
  rw [h.readAt_unread]; congr 1; funext a; apply Fin.ext; fin_cases a <;> simp [LoadRect.idx, Rect.unit, Rect.toLoadRect]

theorem ldw {p q : ℕ} {m : Memref sig .tc .vmem ⟨2, ![p, q]⟩ .f32} (h : m.IsWhole) (x : Vec Ideal ⟨2, ![p, q]⟩ .f32)
    (inb : ∀ a, (![0, 0] : Fin 2 → ℕ) a + (![p, q] : Fin 2 → ℕ) a ≤ (⟨2, ![p, q]⟩ : Shape).size a) (i : Fin p) (j : Fin q) :
    View.readAt (Elt Ideal) m.view (Rect.unit (s := (⟨2, ![p, q]⟩ : Shape)) ![0, 0] ![p, q] inb).toLoadRect (h.unread x) (ix2 i j : (⟨2, ![p, q]⟩ : Shape).Idx)
      = x (ix2 i j) := by
  rw [h.readAt_unread]; congr 1; funext a; apply Fin.ext; fin_cases a <;> simp [LoadRect.idx, Rect.unit, Rect.toLoadRect]

/-- What a list of stores leaves at an index of a block of four planes, as a load of the plane. -/
theorem canon3 (v : View sig .tc .vmem S4x64x512 .f32) (L : List (View.Piece (Elt Ideal) S4x64x512 .f32))
    (inb : ∀ a, (![s, 0, 0] : Fin 3 → ℕ) a + (![1, 64, 512] : Fin 3 → ℕ) a ≤ S4x64x512.size a) (d : Fin 64) (r : Fin 512) :
    View.canon L (ix3 ⟨s, inb 0⟩ d r) = v.readCov L (Rect.unit (s := S4x64x512) ![s, 0, 0] ![1, 64, 512] inb).toLoadRect (ix3 0 d r : (⟨3, ![1, 64, 512]⟩ : Shape).Idx) := by
  rw [View.readCov_eq_canon']
  show View.canon L _ = View.canon L _
  congr 1; funext a; apply Fin.ext; fin_cases a <;> simp [LoadRect.idx, Rect.unit, Rect.toLoadRect]

/-- The same for a block of four by eight planes. -/
theorem canon4 (v : View sig .tc .vmem S4x8x64x512 .f32) (L : List (View.Piece (Elt Ideal) S4x8x64x512 .f32))
    (inb : ∀ a, (![s, n, 0, 0] : Fin 4 → ℕ) a + (![1, 1, 64, 512] : Fin 4 → ℕ) a ≤ S4x8x64x512.size a) (d : Fin 64) (r : Fin 512) :
    View.canon L (ix4 ⟨s, inb 0⟩ ⟨n, inb 1⟩ d r) = v.readCov L (Rect.unit (s := S4x8x64x512) ![s, n, 0, 0] ![1, 1, 64, 512] inb).toLoadRect (ix4 0 0 d r : (⟨4, ![1, 1, 64, 512]⟩ : Shape).Idx) := by
  rw [View.readCov_eq_canon']
  show View.canon L _ = View.canon L _
  congr 1; funext a; apply Fin.ext; fin_cases a <;> simp [LoadRect.idx, Rect.unit, Rect.toLoadRect]

end Loads

/-! The model's numbers in the kernel's forms. -/

variable (T : Tile) (s : Fin 4) (r : Fin 512)

/-- A key projection, the weights on the left. -/
theorem kf_fold (n : Fin 8) (d : Fin 64) : ∑ j, T.W.Wk j d * T.K s r n j = (T.J s r).kf n d :=
  Finset.sum_congr rfl fun _ _ => mul_comm _ _

/-- A hidden number of the position network. -/
theorem ph_fold (n h : Fin 8) : max ((∑ g, T.W.Wp1 g h * T.P s r n g) + T.W.bp1 h) 0 = (T.J s r).ph n h := by
  unfold In.ph
  exact congrArg (fun z => max (z + _) 0) (Finset.sum_congr rfl fun _ _ => mul_comm _ _)

/-- A position number, the weights on the left. -/
theorem posf_fold (n : Fin 8) (d : Fin 64) : (∑ g, T.W.Wp2 g d * (T.J s r).ph n g) + T.W.bp2 d = (T.J s r).posf n d := by
  unfold In.posf
  exact congrArg (· + _) (Finset.sum_congr rfl fun _ _ => mul_comm _ _)

/-- A value with its position number, added in two steps. -/
theorem vp_fold (x5 : Vec Ideal S136x64 .f32) (n : Fin 8) (d : Fin 64) :
    T.vp0 x5 s r n d + ((∑ g, T.W.Wp2 g d * (T.J s r).ph n g : ℝ) : EReal) + (T.W.bp2 d : EReal) = T.vp x5 s r n d := by
  unfold Tile.vp
  rw [add_assoc, ← EReal.coe_add, posf_fold]

/-- A hidden number of the attention network, from the products of the weights. -/
theorem a1_fold (n h : Fin 8) :
    max ((∑ j, (∑ d, T.W.Wa1 d h * T.W.Wk j d) * T.K s r n j) - (∑ j, (∑ d, T.W.Wa1 d h * T.W.Wq j d) * T.Q s r j)
      + (∑ g, (∑ d, T.W.Wa1 d h * T.W.Wp2 g d) * (T.J s r).ph n g) + ((∑ d, T.W.Wa1 d h * T.W.bp2 d) + T.W.ba1 h)) 0
      = (T.J s r).a1 n h := by
  rw [← (T.J s r).a1_eq n h]
  have e1 : (T.J s r).Wa1 = T.W.Wa1 := rfl
  have e2 : (T.J s r).Wk = T.W.Wk := rfl
  have e3 : (T.J s r).Wq = T.W.Wq := rfl
  have e4 : (T.J s r).Wp2 = T.W.Wp2 := rfl
  have e5 : (T.J s r).bp2 = T.W.bp2 := rfl
  have e6 : (T.J s r).ba1 = T.W.ba1 := rfl
  have e7 : (T.J s r).k = T.K s r := rfl
  have e8 : (T.J s r).q = T.Q s r := rfl
  rw [e1, e2, e3, e4, e5, e6, e7, e8]

/-- A logit, the weights on the left. -/
theorem logit_fold (n : Fin 8) (d : Fin 64) : (∑ h, T.W.Wa2 h d * (T.J s r).a1 n h) + T.W.ba2 d = (T.J s r).logit n d := by
  have e1 : (T.J s r).Wa2 = T.W.Wa2 := rfl
  have e2 : (T.J s r).ba2 = T.W.ba2 := rfl
  unfold In.logit
  rw [e1, e2]
  congr 1
  exact Finset.sum_congr rfl fun _ _ => mul_comm _ _

/-- A load of the rectangle that was stored last reads what was stored. -/
theorem load_newest {κ : Kind} {sp : Space} {s : Shape} {e : EltTy} (v : View sig κ sp s e) (r : Rect s) (w : r.shape.Idx → Elt Ideal e)
    (L : List (View.Piece (Elt Ideal) s e)) (i : r.toLoadRect.shape.Idx) {y : Elt Ideal e} (h : w i = y) :
    v.readCov (⟨r, w⟩ :: L) r.toLoadRect i = y :=
  (congrFun (View.readCov_cons_toLoadRect v r w L) i).trans h

/-- A load that is disjoint from the last store reads the earlier ones. -/
theorem load_older {κ : Kind} {sp : Space} {s : Shape} {e : EltTy} (v : View sig κ sp s e) (r : Rect s) (w : r.shape.Idx → Elt Ideal e)
    (L : List (View.Piece (Elt Ideal) s e)) (b : LoadRect s) (i : b.shape.Idx) (hd : LoadRect.disj r b = true) {y : Elt Ideal e}
    (h : v.readCov L b i = y) : v.readCov (⟨r, w⟩ :: L) b i = y :=
  (congrFun (View.readCov_skip v r w L b hd) i).trans h

end Cert.KVal

end
-- ==== Proof.Host.lean ====
/- The arrays that the host computes before the grid, read at an index as real numbers. -/
module

public import proofs.«01_k».proof.Proof.KSetup
public import proofs.«01_k».proof.Proof.Gen.KernelIdeal.Frame.Runs
public import Idealize.ShloMosaic.Lib.Pipeline.ValueKit

@[expose] public section

set_option maxRecDepth 16384

noncomputable section

namespace Cert.KVal

open Idealize.ShloMosaic Idealize.ShloMosaic.TcCoe Cert.Model Cert.KernelIdeal Cert.KernelIdeal.Gen

/-- What @main's arguments hold: the finite ones as reals, the mask and three arrays of any extended reals as they are. -/
structure Mem (m : (ℓ : Loc nD τ sig) → Buf (Elt Ideal) ℓ) (c : Dev nD) (A : Args)
    (y6 y15 : S64x64.Idx → EReal) (y16 : S64.Idx → EReal) : Prop where
  a0 : m (c, Proc.devRef .tc main_arg0) = up A.a0
  a1 : m (c, Proc.devRef .tc main_arg1) = up A.a1
  a2 : m (c, Proc.devRef .tc main_arg2) = up A.a2
  a3 : m (c, Proc.devRef .tc main_arg3) = A.x3
  a4 : m (c, Proc.devRef .tc main_arg4) = up A.a4
  a5 : m (c, Proc.devRef .tc main_arg5) = up A.a5
  a6 : m (c, Proc.devRef .tc main_arg6) = y6
  a7 : m (c, Proc.devRef .tc main_arg7) = up A.a7
  a8 : m (c, Proc.devRef .tc main_arg8) = up A.a8
  a9 : m (c, Proc.devRef .tc main_arg9) = up A.a9
  a10 : m (c, Proc.devRef .tc main_arg10) = up A.a10
  a11 : m (c, Proc.devRef .tc main_arg11) = up A.a11
  a12 : m (c, Proc.devRef .tc main_arg12) = up A.a12
  a13 : m (c, Proc.devRef .tc main_arg13) = up A.a13
  a14 : m (c, Proc.devRef .tc main_arg14) = up A.a14
  a15 : m (c, Proc.devRef .tc main_arg15) = y15
  a16 : m (c, Proc.devRef .tc main_arg16) = y16

/-- What the region finds in a buffer is what the host operations before it leave there. -/
theorem V_ops (m : (ℓ : Loc nD τ sig) → Buf (Elt Ideal) ℓ) (c : Dev nD) (b : Ref sig .tc) :
    V m c b = StableHlo.after hostOps0 (fun b => m (c, b)) (Proc.devRef .tc b) := rfl

/-- The three stacked weight blocks, one above the other. -/
theorem V_19 (m : (ℓ : Loc nD τ sig) → Buf (Elt Ideal) ℓ) (c : Dev nD) :
    V m c main_v19 = concatenate (α := Elt Ideal .f32) S136x64 0
      [⟨S64x64, transpose S64x64 [1, 0] (m (c, Proc.devRef .tc main_arg5) : FVec Ideal S64x64 .f32) transposes_S64x64_S64x64_1_0⟩,
       ⟨S64x64, transpose S64x64 [1, 0] (m (c, Proc.devRef .tc main_arg6) : FVec Ideal S64x64 .f32) transposes_S64x64_S64x64_1_0⟩,
       ⟨S8x64, Host.dotGeneral (F := Ideal) (φ₁ := .f32) (φ₂ := .f32) dot_S8x64_S64x64_S8x64_1_0_0_1_n_n none
            (transpose S8x64 [1, 0] (m (c, Proc.devRef .tc main_arg11) : FVec Ideal S64x8 .f32) transposes_S64x8_S8x64_1_0)
            (transpose S64x64 [1, 0] (m (c, Proc.devRef .tc main_arg5) : FVec Ideal S64x64 .f32) transposes_S64x64_S64x64_1_0)⟩]
      concatenates_S64x64_S64x64_S8x64_S136x64_d0 := by
  rw [V_ops]
  after_results
  rfl

variable {m : (ℓ : Loc nD τ sig) → Buf (Elt Ideal) ℓ} {c : Dev nD} {A : Args} {y6 y15 : S64x64.Idx → EReal} {y16 : S64.Idx → EReal}
  (M : Mem m c A y6 y15 y16)
include M

theorem host_v0 (s : Fin 64) (j : Fin 64) (r : Fin 512) : V m c main_v0 (ix3 s j r) = (((A.at r s).q j : ℝ) : EReal) := by
  rw [V_ops]
  after_results
  pointwise []
  simp only [M.a0, up_apply, ← EReal.coe_mul, ← EReal.coe_add, ← coe_sum]
  rfl

theorem host_v1 (s : Fin 64) (n : Fin 8) (j : Fin 64) (r : Fin 512) : V m c main_v1 (ix4 s n j r) = (((A.at r s).k n j : ℝ) : EReal) := by
  rw [V_ops]
  after_results
  pointwise []
  simp only [M.a1, up_apply, ← EReal.coe_mul, ← EReal.coe_add, ← coe_sum]
  rfl

theorem host_v2 (s : Fin 64) (n : Fin 8) (j : Fin 4) (r : Fin 512) : V m c main_v2 (ix4 s n j r) = (((A.at r s).p n j : ℝ) : EReal) := by
  rw [V_ops]
  after_results
  pointwise []
  simp only [M.a2, up_apply, ← EReal.coe_mul, ← EReal.coe_add, ← coe_sum]
  rfl

theorem host_v5 (s : Fin 64) (n : Fin 8) (r : Fin 512) : V m c main_v5 (ix3 s n r) = (((A.at r s).μ n : ℝ) : EReal) := by
  rw [V_ops]
  after_results
  pointwise []
  simp only [M.a3, up_apply, ← EReal.coe_mul, ← EReal.coe_add, ← coe_sum]
  rw [@uitofp_bit _ (Classical.propDecidable _)]; rfl

theorem host_v16 (h : Fin 8) (j : Fin 64) (hi : 64 + h.val < 72) : V m c main_v16 (ix2 (⟨64 + h.val, hi⟩ : Fin 72) j) = ((∑ d, A.a11 (ix2 d h) * A.a4 (ix2 j d) : ℝ) : EReal) := by
  rw [V_ops]
  after_results
  pointwise []
  simp only [M.a11, M.a4, up_apply, ← EReal.coe_mul, ← EReal.coe_add, ← coe_sum]

theorem host_v19 (d j : Fin 64) (hi : d.val < 136) : V m c main_v19 (ix2 (⟨d.val, hi⟩ : Fin 136) j) = ((A.a5 (ix2 j d) : ℝ) : EReal) := by
  rw [V_19]
  pointwise []
  simp only [M.a5, M.a6, M.a11, up_apply, ← EReal.coe_mul, ← EReal.coe_add, ← coe_sum]

theorem host_v19' (d j : Fin 64) (hi : 64 + d.val < 136) : V m c main_v19 (ix2 (⟨64 + d.val, hi⟩ : Fin 136) j) = y6 (ix2 j d) := by
  rw [V_19]
  pointwise []
  simp only [M.a5, M.a6, M.a11, up_apply, ← EReal.coe_mul, ← EReal.coe_add, ← coe_sum]

theorem host_v19'' (h : Fin 8) (j : Fin 64) (hi : 128 + h.val < 136) : V m c main_v19 (ix2 (⟨128 + h.val, hi⟩ : Fin 136) j) = ((∑ d, A.a11 (ix2 d h) * A.a5 (ix2 j d) : ℝ) : EReal) := by
  rw [V_19]
  pointwise []
  simp only [M.a5, M.a6, M.a11, up_apply, ← EReal.coe_mul, ← EReal.coe_add, ← coe_sum]
  rw [dif_neg (by omega), dif_neg (by omega)]
  have e : ∀ hh, (⟨128 + h.val - 64 - 64, hh⟩ : Fin 8) = h := fun _ => Fin.ext (by show 128 + h.val - 64 - 64 = h.val; omega)
  simp only [e]

theorem host_v35 (h : Fin 8) (g : Fin 4) : V m c main_v35 (ix2 h g) = ((A.a7 (ix2 g h) : ℝ) : EReal) := by
  rw [V_ops]
  after_results
  pointwise []
  simp only [M.a7, up_apply, ← EReal.coe_mul, ← EReal.coe_add, ← coe_sum]

theorem host_v26 (h : Fin 8) (r : Fin 512) : V m c main_v26 (ix2 h r) = ((A.a8 (ix1 h) : ℝ) : EReal) := by
  rw [V_ops]
  after_results
  pointwise []
  simp only [M.a8, up_apply, ← EReal.coe_mul, ← EReal.coe_add, ← coe_sum]

theorem host_v21 (d : Fin 64) (g : Fin 8) (hi : d.val < 72) : V m c main_v21 (ix2 (⟨d.val, hi⟩ : Fin 72) g) = ((A.a9 (ix2 g d) : ℝ) : EReal) := by
  rw [V_ops]
  after_results
  pointwise []
  simp only [M.a9, M.a11, up_apply, ← EReal.coe_mul, ← EReal.coe_add, ← coe_sum]

theorem host_v21' (h g : Fin 8) (hi : 64 + h.val < 72) : V m c main_v21 (ix2 (⟨64 + h.val, hi⟩ : Fin 72) g) = ((∑ d, A.a11 (ix2 d h) * A.a9 (ix2 g d) : ℝ) : EReal) := by
  rw [V_ops]
  after_results
  pointwise []
  simp only [M.a9, M.a11, up_apply, ← EReal.coe_mul, ← EReal.coe_add, ← coe_sum]

theorem host_v28 (d : Fin 64) (r : Fin 512) : V m c main_v28 (ix2 d r) = ((A.a10 (ix1 d) : ℝ) : EReal) := by
  rw [V_ops]
  after_results
  pointwise []
  simp only [M.a10, up_apply, ← EReal.coe_mul, ← EReal.coe_add, ← coe_sum]

theorem host_v30 (h : Fin 8) (r : Fin 512) : V m c main_v30 (ix2 h r) = (((∑ d, A.a11 (ix2 d h) * A.a10 (ix1 d)) + A.a12 (ix1 h) : ℝ) : EReal) := by
  rw [V_ops]
  after_results
  pointwise []
  simp only [M.a11, M.a10, M.a12, up_apply, ← EReal.coe_mul, ← EReal.coe_add, ← coe_sum]

theorem host_v36 (d : Fin 64) (h : Fin 8) : V m c main_v36 (ix2 d h) = ((A.a13 (ix2 h d) : ℝ) : EReal) := by
  rw [V_ops]
  after_results
  pointwise []
  simp only [M.a13, up_apply, ← EReal.coe_mul, ← EReal.coe_add, ← coe_sum]

theorem host_v32 (d : Fin 64) (r : Fin 512) : V m c main_v32 (ix2 d r) = ((A.a14 (ix1 d) : ℝ) : EReal) := by
  rw [V_ops]
  after_results
  pointwise []
  simp only [M.a14, up_apply, ← EReal.coe_mul, ← EReal.coe_add, ← coe_sum]

theorem host_v37 (o d : Fin 64) : V m c main_v37 (ix2 o d) = y15 (ix2 d o) := by
  rw [V_ops]
  after_results
  pointwise []
  simp only [M.a15, up_apply, ← EReal.coe_mul, ← EReal.coe_add, ← coe_sum]

theorem host_v34 (o : Fin 64) (r : Fin 512) : V m c main_v34 (ix2 o r) = y16 (ix1 o) := by
  rw [V_ops]
  after_results
  pointwise []
  simp only [M.a16, up_apply, ← EReal.coe_mul, ← EReal.coe_add, ← coe_sum]

end Cert.KVal
end
-- ==== Proof.Pre.lean ====
/- What the precondition says: thirteen of the arguments hold real numbers. -/
module

public import proofs.«01_k».proof.Defs
public import proofs.«01_k».proof.Proof.Host
public import Idealize.ShloMosaic.Lib.ReduceAll

@[expose] public section

set_option maxRecDepth 16384

noncomputable section

namespace Cert.KVal

open Idealize.ShloMosaic Idealize.ShloMosaic.TcCoe Cert.Model Cert.KernelIdeal Cert.KernelIdeal.Gen

/-- The shape facts that the precondition's program states. -/
theorem pre_facts : Cert.Pre_finite.Facts := by
  constructor <;> first | decide | decide +kernel

/-- A number whose absolute value is below infinity is real. -/
theorem real_of_olt (x : EReal)
    (h : FloatOps.cmpf .olt (FloatOps.hostAbsf (F := Ideal) (φ := .f32) x) (FloatOps.ofBits (F := Ideal) .f32 0x7F800000#32) = 1#1) :
    x = ((x.toReal : ℝ) : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    simp [Ideal.cmp, hn] at h'
  rw [max_lt_iff] at hlt
  refine (EReal.coe_toReal hlt.1.ne ?_).symm
  rintro rfl
  simp at hlt

/-- An array that passes the check is an array of reals. -/
theorem finite_of {S : Shape} {axes : List (Fin S.rank)} (x : FVec Ideal S .f32) (hb : (⟨0, ![]⟩ : Shape).BroadcastsInDim S (![] : Fin 0 → Fin S.rank))
    (hr : S.ReducesTo axes ⟨0, ![]⟩) (hu : 0 < (⟨0, ![]⟩ : Shape).numel)
    (h : Host.reduce IntOp.andi (cmpf .olt (Host.absf x) (broadcastInDim S ![] hb (constant (F := Ideal) ⟨0, ![]⟩ .f32 0x7F800000#32)))
      (constantI ⟨0, ![]⟩ 1 1#1) hr hu ix0 = 1#1) : x = up fun i => (x i).toReal := by
  funext i
  haveI : Subsingleton (⟨0, ![]⟩ : Shape).Idx := ⟨fun a b => funext fun k => k.elim0⟩
  exact real_of_olt _ (Host.reduce_andi_all _ _ hr hu ix0 h i)

/-- The arguments of a launch that satisfies the precondition. -/
theorem mem_of_pre (m : (ℓ : Loc nD τ sig) → Buf (Elt Ideal) ℓ) (h : Pre_KernelIdeal_finite (hPre_finite := pre_facts) m) (c : Dev nD) :
    ∃ (A : Args) (y6 y15 : S64x64.Idx → EReal) (y16 : S64.Idx → EReal), Mem m c A y6 y15 y16 := by
  have hc := congrFun (h c) ix0
  unfold Cert.Pre_finite.fn Cert.Pre_finite.fn_part1 Cert.Pre_finite.fn_part2 Cert.Pre_finite.fn_part3 at hc
  obtain ⟨hc, h14⟩ := IntOp.andi_eq_one.1 hc
  obtain ⟨hc, h13⟩ := IntOp.andi_eq_one.1 hc
  obtain ⟨hc, h12⟩ := IntOp.andi_eq_one.1 hc
  obtain ⟨hc, h11⟩ := IntOp.andi_eq_one.1 hc
  obtain ⟨hc, h10⟩ := IntOp.andi_eq_one.1 hc
  obtain ⟨hc, h9⟩ := IntOp.andi_eq_one.1 hc
  obtain ⟨hc, h8⟩ := IntOp.andi_eq_one.1 hc
  obtain ⟨hc, h7⟩ := IntOp.andi_eq_one.1 hc
  obtain ⟨hc, h5⟩ := IntOp.andi_eq_one.1 hc
  obtain ⟨hc, h4⟩ := IntOp.andi_eq_one.1 hc
  obtain ⟨hc, h2⟩ := IntOp.andi_eq_one.1 hc
  obtain ⟨hc, h1⟩ := IntOp.andi_eq_one.1 hc
  refine ⟨⟨fun i => EReal.toReal (m (c, Proc.devRef .tc main_arg0) i), fun i => EReal.toReal (m (c, Proc.devRef .tc main_arg1) i), fun i => EReal.toReal (m (c, Proc.devRef .tc main_arg2) i), m (c, Proc.devRef .tc main_arg3), fun i => EReal.toReal (m (c, Proc.devRef .tc main_arg4) i), fun i => EReal.toReal (m (c, Proc.devRef .tc main_arg5) i), fun i => EReal.toReal (m (c, Proc.devRef .tc main_arg7) i), fun i => EReal.toReal (m (c, Proc.devRef .tc main_arg8) i), fun i => EReal.toReal (m (c, Proc.devRef .tc main_arg9) i), fun i => EReal.toReal (m (c, Proc.devRef .tc main_arg10) i), fun i => EReal.toReal (m (c, Proc.devRef .tc main_arg11) i), fun i => EReal.toReal (m (c, Proc.devRef .tc main_arg12) i), fun i => EReal.toReal (m (c, Proc.devRef .tc main_arg13) i), fun i => EReal.toReal (m (c, Proc.devRef .tc main_arg14) i)⟩,
    m (c, Proc.devRef .tc main_arg6), m (c, Proc.devRef .tc main_arg15), m (c, Proc.devRef .tc main_arg16), ?_⟩
  exact {
    a0 := finite_of _ _ _ _ hc
    a1 := finite_of _ _ _ _ h1
    a2 := finite_of _ _ _ _ h2
    a3 := rfl
    a4 := finite_of _ _ _ _ h4
    a5 := finite_of _ _ _ _ h5
    a6 := rfl
    a7 := finite_of _ _ _ _ h7
    a8 := finite_of _ _ _ _ h8
    a9 := finite_of _ _ _ _ h9
    a10 := finite_of _ _ _ _ h10
    a11 := finite_of _ _ _ _ h11
    a12 := finite_of _ _ _ _ h12
    a13 := finite_of _ _ _ _ h13
    a14 := finite_of _ _ _ _ h14
    a15 := rfl
    a16 := rfl
  }

end Cert.KVal
end
-- ==== Proof.Blocks.lean ====
/- What the fifteen input blocks of a grid step hold, read from the host's arrays. -/
module

public import proofs.«01_k».proof.Proof.Host

@[expose] public section

set_option maxRecDepth 16384

noncomputable section

namespace Cert.KVal

open Idealize.ShloMosaic Idealize.ShloMosaic.TcCoe Cert.Model Cert.KernelIdeal Cert.KernelIdeal.Gen

/-- The sample of a grid step's `s`-th row. -/
def row (t : Fin cfg0.N) (s : Fin 4) : Fin 64 := ⟨4 * t.val + s.val, by
  have h := t.isLt
  have e : cfg0.N = 16 := by decide
  have := s.isLt
  omega⟩

/-- The block of every window at every grid step. -/
theorem idx : ∀ t : Fin cfg0.N,
    win0_0.index t = ![t.val, 0, 0] ∧ win0_1.index t = ![t.val, 0, 0, 0] ∧ win0_2.index t = ![t.val, 0, 0, 0] ∧
    win0_3.index t = ![t.val, 0, 0] ∧ win0_4.index t = ![0, 0] ∧ win0_5.index t = ![0, 0] ∧ win0_6.index t = ![0, 0] ∧
    win0_7.index t = ![0, 0] ∧ win0_8.index t = ![0, 0] ∧ win0_9.index t = ![0, 0] ∧ win0_10.index t = ![0, 0] ∧
    win0_11.index t = ![0, 0] ∧ win0_12.index t = ![0, 0] ∧ win0_13.index t = ![0, 0] ∧ win0_14.index t = ![0, 0] ∧
    win0_15.index t = ![t.val, 0, 0] ∧ win0_16.index t = ![t.val, 0, 0, 0] ∧ win0_17.index t = ![t.val, 0, 0] ∧
    win0_18.index t = ![t.val, 0, 0] :=
  (by decide +kernel : ∀ t : Fin grid0.N, _)

variable (m : (ℓ : Loc nD τ sig) → Buf (Elt Ideal) ℓ) (c : Dev nD) (t : Fin cfg0.N)

theorem blk_0 (s : Fin 4) (j : Fin 64) (r : Fin 512) : iblk m c 0 t (ix3 s j r) = V m c main_v0 (ix3 (row t s) j r) := by
  have h := idx t
  blk_ext [iblk, h, row]

theorem blk_1 (s : Fin 4) (n : Fin 8) (j : Fin 64) (r : Fin 512) : iblk m c 1 t (ix4 s n j r) = V m c main_v1 (ix4 (row t s) n j r) := by
  have h := idx t
  blk_ext [iblk, h, row]

theorem blk_2 (s : Fin 4) (n : Fin 8) (j : Fin 4) (r : Fin 512) : iblk m c 2 t (ix4 s n j r) = V m c main_v2 (ix4 (row t s) n j r) := by
  have h := idx t
  blk_ext [iblk, h, row]

theorem blk_3 (s : Fin 4) (n : Fin 8) (r : Fin 512) : iblk m c 3 t (ix3 s n r) = V m c main_v5 (ix3 (row t s) n r) := by
  have h := idx t
  blk_ext [iblk, h, row]

theorem blk_4 (i : Fin 72) (j : Fin 64) : iblk m c 4 t (ix2 i j) = V m c main_v16 (ix2 i j) := by
  have h := idx t
  blk_ext [iblk, h, row]

theorem blk_5 (i : Fin 136) (j : Fin 64) : iblk m c 5 t (ix2 i j) = V m c main_v19 (ix2 i j) := by
  have h := idx t
  blk_ext [iblk, h, row]

theorem blk_6 (i : Fin 8) (j : Fin 4) : iblk m c 6 t (ix2 i j) = V m c main_v35 (ix2 i j) := by
  have h := idx t
  blk_ext [iblk, h, row]

theorem blk_7 (i : Fin 8) (j : Fin 512) : iblk m c 7 t (ix2 i j) = V m c main_v26 (ix2 i j) := by
  have h := idx t
  blk_ext [iblk, h, row]

theorem blk_8 (i : Fin 72) (j : Fin 8) : iblk m c 8 t (ix2 i j) = V m c main_v21 (ix2 i j) := by
  have h := idx t
  blk_ext [iblk, h, row]

theorem blk_9 (i : Fin 64) (j : Fin 512) : iblk m c 9 t (ix2 i j) = V m c main_v28 (ix2 i j) := by
  have h := idx t
  blk_ext [iblk, h, row]

theorem blk_10 (i : Fin 8) (j : Fin 512) : iblk m c 10 t (ix2 i j) = V m c main_v30 (ix2 i j) := by
  have h := idx t
  blk_ext [iblk, h, row]

theorem blk_11 (i : Fin 64) (j : Fin 8) : iblk m c 11 t (ix2 i j) = V m c main_v36 (ix2 i j) := by
  have h := idx t
  blk_ext [iblk, h, row]

theorem blk_12 (i : Fin 64) (j : Fin 512) : iblk m c 12 t (ix2 i j) = V m c main_v32 (ix2 i j) := by
  have h := idx t
  blk_ext [iblk, h, row]

theorem blk_13 (i : Fin 64) (j : Fin 64) : iblk m c 13 t (ix2 i j) = V m c main_v37 (ix2 i j) := by
  have h := idx t
  blk_ext [iblk, h, row]

theorem blk_14 (i : Fin 64) (j : Fin 512) : iblk m c 14 t (ix2 i j) = V m c main_v34 (ix2 i j) := by
  have h := idx t
  blk_ext [iblk, h, row]

/-- The numbers of a grid step. -/
def tile (A : Args) (t : Fin cfg0.N) : Tile where
  W := A.at 0 0
  Q s r := (A.at r (row t s)).q
  K s r := (A.at r (row t s)).k
  P s r := (A.at r (row t s)).p
  M s r := (A.at r (row t s)).valid

theorem tile_J (A : Args) (t : Fin cfg0.N) (s : Fin 4) (r : Fin 512) : (tile A t).J s r = A.at r (row t s) := rfl

variable {m} {c} {A : Args} {y6 y15 : S64x64.Idx → EReal} {y16 : S64.Idx → EReal}

/-- The input blocks hold the numbers of the step. -/
theorem holds (M : Mem m c A y6 y15 y16) : (tile A t).Holds (iblk m c 0 t) (iblk m c 1 t) (iblk m c 2 t) (iblk m c 3 t)
    (iblk m c 4 t) (iblk m c 5 t) (iblk m c 6 t) (iblk m c 7 t) (iblk m c 8 t) (iblk m c 9 t) (iblk m c 10 t)
    (iblk m c 11 t) (iblk m c 12 t) where
  q s j r := (blk_0 m c t s j r).trans (host_v0 M _ _ _)
  k s n j r := (blk_1 m c t s n j r).trans (host_v1 M _ _ _ _)
  p s n g r := (blk_2 m c t s n g r).trans (host_v2 M _ _ _ _)
  μ s n r := (blk_3 m c t s n r).trans (host_v5 M _ _ _)
  wq h j hi := (blk_4 m c t _ _).trans (host_v16 M _ _ hi)
  wk d j hi := (blk_5 m c t _ _).trans (host_v19 M _ _ hi)
  wak h j hi := (blk_5 m c t _ _).trans (host_v19'' M _ _ hi)
  wp1 h g := (blk_6 m c t _ _).trans (host_v35 M _ _)
  bp1 h r := (blk_7 m c t _ _).trans (host_v26 M _ _)
  wp2 d g hi := (blk_8 m c t _ _).trans (host_v21 M _ _ hi)
  wap h g hi := (blk_8 m c t _ _).trans (host_v21' M _ _ hi)
  bp2 d r := (blk_9 m c t _ _).trans (host_v28 M _ _)
  ba1 h r := (blk_10 m c t _ _).trans (host_v30 M _ _)
  wa2 d h := (blk_11 m c t _ _).trans (host_v36 M _ _)
  ba2 d r := (blk_12 m c t _ _).trans (host_v32 M _ _)

end Cert.KVal
end
-- ==== Proof.Lists.lean ====
/- The stores that one grid point leaves in each of the four output blocks, newest first. -/
module

public import proofs.«01_k».proof.Proof.KSetup
public import proofs.«01_k».proof.Proof.Gen.KernelIdeal.Frame.RunA

@[expose] public section

set_option maxRecDepth 16384

noncomputable section

namespace Cert.KVal

open Idealize.ShloMosaic Idealize.ShloMosaic.TcCoe Cert.Model Cert.KernelIdeal Cert.KernelIdeal.Gen Cert.KernelIdeal.Gen.kernelRun0_A

variable (c : Dev nD) (i : grid0.Coords)
variable (arg1 : Memref sig .tc .vmem S4x64x512 .f32) (harg1 : arg1.IsWhole)
variable (arg2 : Memref sig .tc .vmem S4x8x64x512 .f32) (harg2 : arg2.IsWhole)
variable (arg3 : Memref sig .tc .vmem S4x8x4x512 .f32) (harg3 : arg3.IsWhole)
variable (arg4 : Memref sig .tc .vmem S4x8x512 .f32) (harg4 : arg4.IsWhole)
variable (arg5 : Memref sig .tc .vmem S72x64 .f32) (harg5 : arg5.IsWhole)
variable (arg6 : Memref sig .tc .vmem S136x64 .f32) (harg6 : arg6.IsWhole)
variable (arg7 : Memref sig .tc .vmem S8x4 .f32) (harg7 : arg7.IsWhole)
variable (arg8 : Memref sig .tc .vmem S8x512 .f32) (harg8 : arg8.IsWhole)
variable (arg9 : Memref sig .tc .vmem S72x8 .f32) (harg9 : arg9.IsWhole)
variable (arg10 : Memref sig .tc .vmem S64x512 .f32) (harg10 : arg10.IsWhole)
variable (arg11 : Memref sig .tc .vmem S8x512 .f32) (harg11 : arg11.IsWhole)
variable (arg12 : Memref sig .tc .vmem S64x8 .f32) (harg12 : arg12.IsWhole)
variable (arg13 : Memref sig .tc .vmem S64x512 .f32) (harg13 : arg13.IsWhole)
variable (arg14 : Memref sig .tc .vmem S64x64 .f32) (harg14 : arg14.IsWhole)
variable (arg15 : Memref sig .tc .vmem S64x512 .f32) (harg15 : arg15.IsWhole)
variable (arg16 : Memref sig .tc .vmem S4x64x512 .f32) (harg16 : arg16.IsWhole)
variable (arg17 : Memref sig .tc .vmem S4x8x64x512 .f32) (harg17 : arg17.IsWhole)
variable (arg18 : Memref sig .tc .vmem S4x64x512 .f32) (harg18 : arg18.IsWhole)
variable (arg19 : Memref sig .tc .vmem S4x64x512 .f32) (harg19 : arg19.IsWhole)
variable (arg20 : Memref sig .tc .vmem S8x64x512 .f32) (harg20 : arg20.IsWhole)
variable (arg21 : Memref sig .tc .vmem S8x8x512 .f32) (harg21 : arg21.IsWhole)
variable (arg22 : Memref sig .tc .vmem S8x8x512 .f32) (harg22 : arg22.IsWhole)
variable (x0 : Vec Ideal S4x64x512 .f32)
variable (x1 : Vec Ideal S4x8x64x512 .f32)
variable (x2 : Vec Ideal S4x8x4x512 .f32)
variable (x3 : Vec Ideal S4x8x512 .f32)
variable (x4 : Vec Ideal S72x64 .f32)
variable (x5 : Vec Ideal S136x64 .f32)
variable (x6 : Vec Ideal S8x4 .f32)
variable (x7 : Vec Ideal S8x512 .f32)
variable (x8 : Vec Ideal S72x8 .f32)
variable (x9 : Vec Ideal S64x512 .f32)
variable (x10 : Vec Ideal S8x512 .f32)
variable (x11 : Vec Ideal S64x8 .f32)
variable (x12 : Vec Ideal S64x512 .f32)
variable (x13 : Vec Ideal S64x64 .f32)
variable (x14 : Vec Ideal S64x512 .f32)

/-- The stores of x. -/
def L15 : List (View.Piece (Elt Ideal) S4x64x512 .f32) :=
  [⟨Rect.unit ![3, 0, 0] ![1, 64, 512] inb_S4x64x512_S1x64x512_3_0_0, k0_pay3 (sl.r_328 c arg1 harg1 arg2 harg2 arg3 harg3 arg4 harg4 arg5 harg5 arg6 harg6 arg7 harg7 arg8 harg8 arg9 harg9 arg10 harg10 arg11 harg11 arg12 harg12 arg13 harg13 arg17 arg20 arg21 arg22 x0 x1 x2 x3 x4 x5 x6 x7 x8 x9 x10 x11 x12) (sl.r_329 c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12) (View.readAt (Elt Ideal) arg14.view (Rect.unit (s := S64x64) ![0, 0] ![64, 64] inb_S64x64_S64x64_0_0).toLoadRect (harg14.unread x13)) (View.readAt (Elt Ideal) arg15.view (Rect.unit (s := S64x512) ![0, 0] ![64, 512] inb_S64x512_S64x512_0_0).toLoadRect (harg15.unread x14))⟩,
    ⟨Rect.unit ![2, 0, 0] S1x64x512.size inb_S4x64x512_S1x64x512_2_0_0, k0_pay552 (sl.r_248 c arg1 harg1 arg2 harg2 arg3 harg3 arg4 harg4 arg5 harg5 arg6 harg6 arg7 harg7 arg8 harg8 arg9 harg9 arg10 harg10 arg11 harg11 arg12 harg12 arg13 harg13 arg17 arg20 arg21 arg22 x0 x1 x2 x3 x4 x5 x6 x7 x8 x9 x10 x11 x12) (sl.r_249 c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12) (View.readAt (Elt Ideal) arg14.view (Rect.unit (s := S64x64) ![0, 0] S64x64.size inb_S64x64_S64x64_0_0).toLoadRect (harg14.unread x13)) (View.readAt (Elt Ideal) arg15.view (Rect.unit (s := S64x512) ![0, 0] S64x512.size inb_S64x512_S64x512_0_0).toLoadRect (harg15.unread x14))⟩,
    ⟨Rect.unit ![1, 0, 0] S1x64x512.size inb_S4x64x512_S1x64x512_1_0_0, k0_pay369 (sl.r_161 c arg1 harg1 arg2 harg2 arg3 harg3 arg4 harg4 arg5 harg5 arg6 harg6 arg7 harg7 arg8 harg8 arg9 harg9 arg10 harg10 arg11 harg11 arg12 harg12 arg13 harg13 arg17 arg20 arg21 arg22 x0 x1 x2 x3 x4 x5 x6 x7 x8 x9 x10 x11 x12) (sl.r_162 c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12) (View.readAt (Elt Ideal) arg14.view (Rect.unit (s := S64x64) ![0, 0] S64x64.size inb_S64x64_S64x64_0_0).toLoadRect (harg14.unread x13)) (View.readAt (Elt Ideal) arg15.view (Rect.unit (s := S64x512) ![0, 0] S64x512.size inb_S64x512_S64x512_0_0).toLoadRect (harg15.unread x14))⟩,
    ⟨Rect.unit ![0, 0, 0] S1x64x512.size inb_S4x64x512_S1x64x512_0_0_0, k0_pay184 (sl.r_76 c arg1 harg1 arg2 harg2 arg3 harg3 arg4 harg4 arg5 harg5 arg6 harg6 arg7 harg7 arg8 harg8 arg9 harg9 arg10 harg10 arg11 harg11 arg12 harg12 arg13 harg13 arg17 arg20 arg21 arg22 x0 x1 x2 x3 x4 x5 x6 x7 x8 x9 x10 x11 x12) (sl.r_77 c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12) (View.readAt (Elt Ideal) arg14.view (Rect.unit (s := S64x64) ![0, 0] S64x64.size inb_S64x64_S64x64_0_0).toLoadRect (harg14.unread x13)) (View.readAt (Elt Ideal) arg15.view (Rect.unit (s := S64x512) ![0, 0] S64x512.size inb_S64x512_S64x512_0_0).toLoadRect (harg15.unread x14))⟩]

/-- The stores of the attention weights. -/
def L16 : List (View.Piece (Elt Ideal) S4x8x64x512 .f32) :=
  ⟨Rect.unit ![3, 7, 0, 0] ![1, 1, 64, 512] inb_S4x8x64x512_S1x1x64x512_3_7_0_0, k0_pay2 (sl.r_329 c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12) (sl.v3804 c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12)⟩ :: sl.H16_95 c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12

/-- The stores of the deviation. -/
def L17 : List (View.Piece (Elt Ideal) S4x64x512 .f32) :=
  [⟨Rect.unit ![3, 0, 0] S1x64x512.size inb_S4x64x512_S1x64x512_3_0_0, k0_pay636 (sl.r_261 c arg4 harg4 x3) (sl.r_262 c arg4 harg4 x3) (sl.r_264 c arg4 harg4 x3) (sl.r_272 c arg4 harg4 x3) (sl.r_287 c arg2 harg2 arg4 harg4 arg6 harg6 x1 x3 x5) (sl.r_288 c arg2 harg2 arg4 harg4 arg6 harg6 x1 x3 x5) (sl.r_290 c arg2 harg2 arg6 harg6 x1 x5)⟩,
    ⟨Rect.unit ![2, 0, 0] S1x64x512.size inb_S4x64x512_S1x64x512_2_0_0, k0_pay454 (sl.r_176 c arg4 harg4 x3) (sl.r_177 c arg4 harg4 x3) (sl.r_178 c arg4 harg4 x3) (sl.r_186 c arg4 harg4 x3) (sl.r_205 c arg2 harg2 arg4 harg4 arg6 harg6 x1 x3 x5) (sl.r_206 c arg2 harg2 arg4 harg4 arg6 harg6 x1 x3 x5) (sl.r_208 c arg6 harg6 x5) (View.readAt (Elt Ideal) arg2.view (Rect.unit (s := S4x8x64x512) ![2, 7, 0, 0] S1x1x64x512.size inb_S4x8x64x512_S1x1x64x512_2_7_0_0).toLoadRect (harg2.unread x1))⟩,
    ⟨Rect.unit ![1, 0, 0] S1x64x512.size inb_S4x64x512_S1x64x512_1_0_0, k0_pay270 (sl.r_128 c arg2 harg2 arg4 harg4 arg6 harg6 x1 x3 x5)⟩,
    ⟨Rect.unit ![0, 0, 0] S1x64x512.size inb_S4x64x512_S1x64x512_0_0_0, k0_pay87 (sl.r_38 c arg2 harg2 arg4 harg4 arg6 harg6 x1 x3 x5) (sl.r_40 c arg4 harg4 x3) k0_pay86⟩]

/-- The stores of the normalised deviation. -/
def L18 : List (View.Piece (Elt Ideal) S4x64x512 .f32) :=
  [⟨Rect.unit ![3, 0, 0] S1x64x512.size inb_S4x64x512_S1x64x512_3_0_0, k0_pay638 (sl.r_291 c arg4 harg4 x3) (sl.r_292 c arg2 harg2 arg4 harg4 arg6 harg6 x1 x3 x5)⟩,
    ⟨Rect.unit ![2, 0, 0] S1x64x512.size inb_S4x64x512_S1x64x512_2_0_0, k0_pay455 (sl.r_209 c arg4 harg4 x3) (sl.r_210 c arg2 harg2 arg4 harg4 arg6 harg6 x1 x3 x5) (sl.r_211 c arg2 harg2 arg4 harg4 arg6 harg6 x1 x3 x5)⟩,
    ⟨Rect.unit ![1, 0, 0] S1x64x512.size inb_S4x64x512_S1x64x512_1_0_0, k0_pay271 (sl.r_125 c arg4 harg4 x3) (sl.r_126 c arg2 harg2 arg4 harg4 arg6 harg6 x1 x3 x5) (sl.r_127 c arg2 harg2 arg4 harg4 arg6 harg6 x1 x3 x5)⟩,
    ⟨Rect.unit ![0, 0, 0] S1x64x512.size inb_S4x64x512_S1x64x512_0_0_0, k0_pay88 (sl.r_37 c arg4 harg4 x3) (sl.r_38 c arg2 harg2 arg4 harg4 arg6 harg6 x1 x3 x5) (sl.r_39 c arg2 harg2 arg4 harg4 arg6 harg6 x1 x3 x5)⟩]

theorem run_L15 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14).1 = L15 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg20 arg21 arg22 x0 x1 x2 x3 x4 x5 x6 x7 x8 x9 x10 x11 x12 x13 x14 := rfl

theorem run_L16 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14).2.1 = L16 c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 := rfl

theorem run_L17 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14).2.2.1 = L17 c arg2 harg2 arg4 harg4 arg6 harg6 x1 x3 x5 := rfl

theorem run_L18 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14).2.2.2.1 = L18 c arg2 harg2 arg4 harg4 arg6 harg6 x1 x3 x5 := rfl

end Cert.KVal
end
-- ==== Proof.BodyIn.lean ====
/- What the body computes of its inputs, for the four samples of a grid step: the weights of the views and the projections. -/
module

public import proofs.«01_k».proof.Proof.Lists
public import proofs.«01_k».proof.Proof.Gen.KernelIdeal.Frame.RunA

@[expose] public section

set_option maxRecDepth 16384

noncomputable section

namespace Cert.KVal

open Idealize.ShloMosaic Idealize.ShloMosaic.TcCoe Cert.Model Cert.KernelIdeal Cert.KernelIdeal.Gen Cert.KernelIdeal.Gen.kernelRun0_A

variable {c : Dev nD}
variable {arg1 : Memref sig .tc .vmem S4x64x512 .f32} {harg1 : arg1.IsWhole}
variable {arg2 : Memref sig .tc .vmem S4x8x64x512 .f32} {harg2 : arg2.IsWhole}
variable {arg3 : Memref sig .tc .vmem S4x8x4x512 .f32} {harg3 : arg3.IsWhole}
variable {arg4 : Memref sig .tc .vmem S4x8x512 .f32} {harg4 : arg4.IsWhole}
variable {arg5 : Memref sig .tc .vmem S72x64 .f32} {harg5 : arg5.IsWhole}
variable {arg6 : Memref sig .tc .vmem S136x64 .f32} {harg6 : arg6.IsWhole}
variable {arg7 : Memref sig .tc .vmem S8x4 .f32} {harg7 : arg7.IsWhole}
variable {arg8 : Memref sig .tc .vmem S8x512 .f32} {harg8 : arg8.IsWhole}
variable {arg9 : Memref sig .tc .vmem S72x8 .f32} {harg9 : arg9.IsWhole}
variable {arg10 : Memref sig .tc .vmem S64x512 .f32} {harg10 : arg10.IsWhole}
variable {arg11 : Memref sig .tc .vmem S8x512 .f32} {harg11 : arg11.IsWhole}
variable {arg12 : Memref sig .tc .vmem S64x8 .f32} {harg12 : arg12.IsWhole}
variable {arg13 : Memref sig .tc .vmem S64x512 .f32} {harg13 : arg13.IsWhole}
variable {arg14 : Memref sig .tc .vmem S64x64 .f32} {harg14 : arg14.IsWhole}
variable {arg15 : Memref sig .tc .vmem S64x512 .f32} {harg15 : arg15.IsWhole}
variable {arg16 : Memref sig .tc .vmem S4x64x512 .f32} {harg16 : arg16.IsWhole}
variable {arg17 : Memref sig .tc .vmem S4x8x64x512 .f32} {harg17 : arg17.IsWhole}
variable {arg18 : Memref sig .tc .vmem S4x64x512 .f32} {harg18 : arg18.IsWhole}
variable {arg19 : Memref sig .tc .vmem S4x64x512 .f32} {harg19 : arg19.IsWhole}
variable {arg20 : Memref sig .tc .vmem S8x64x512 .f32} {harg20 : arg20.IsWhole}
variable {arg21 : Memref sig .tc .vmem S8x8x512 .f32} {harg21 : arg21.IsWhole}
variable {arg22 : Memref sig .tc .vmem S8x8x512 .f32} {harg22 : arg22.IsWhole}
variable {x0 : Vec Ideal S4x64x512 .f32}
variable {x1 : Vec Ideal S4x8x64x512 .f32}
variable {x2 : Vec Ideal S4x8x4x512 .f32}
variable {x3 : Vec Ideal S4x8x512 .f32}
variable {x4 : Vec Ideal S72x64 .f32}
variable {x5 : Vec Ideal S136x64 .f32}
variable {x6 : Vec Ideal S8x4 .f32}
variable {x7 : Vec Ideal S8x512 .f32}
variable {x8 : Vec Ideal S72x8 .f32}
variable {x9 : Vec Ideal S64x512 .f32}
variable {x10 : Vec Ideal S8x512 .f32}
variable {x11 : Vec Ideal S64x8 .f32}
variable {x12 : Vec Ideal S64x512 .f32}
variable {x13 : Vec Ideal S64x64 .f32}
variable {x14 : Vec Ideal S64x512 .f32}
variable {T : Tile} (H : T.Holds x0 x1 x2 x3 x4 x5 x6 x7 x8 x9 x10 x11 x12)
include H

/-- The weights of the eight views, for the four samples of a grid step. -/
theorem weight (r : Fin 512) :
    sl.r_13 (F := Ideal) c arg4 harg4 x3 (ix2 0 r)
      = (((T.J 0 r).w 0 : ℝ) : EReal)
    ∧ sl.r_14 (F := Ideal) c arg4 harg4 x3 (ix2 0 r)
      = (((T.J 0 r).w 1 : ℝ) : EReal)
    ∧ sl.r_15 (F := Ideal) c arg4 harg4 x3 (ix2 0 r)
      = (((T.J 0 r).w 2 : ℝ) : EReal)
    ∧ sl.r_16 (F := Ideal) c arg4 harg4 x3 (ix2 0 r)
      = (((T.J 0 r).w 3 : ℝ) : EReal)
    ∧ sl.r_17 (F := Ideal) c arg4 harg4 x3 (ix2 0 r)
      = (((T.J 0 r).w 4 : ℝ) : EReal)
    ∧ sl.r_18 (F := Ideal) c arg4 harg4 x3 (ix2 0 r)
      = (((T.J 0 r).w 5 : ℝ) : EReal)
    ∧ sl.r_19 (F := Ideal) c arg4 harg4 x3 (ix2 0 r)
      = (((T.J 0 r).w 6 : ℝ) : EReal)
    ∧ sl.r_20 (F := Ideal) c arg4 harg4 x3 (ix2 0 r)
      = (((T.J 0 r).w 7 : ℝ) : EReal)
    ∧ sl.r_95 (F := Ideal) c arg4 harg4 x3 (ix2 0 r)
      = (((T.J 1 r).w 0 : ℝ) : EReal)
    ∧ sl.r_96 (F := Ideal) c arg4 harg4 x3 (ix2 0 r)
      = (((T.J 1 r).w 1 : ℝ) : EReal)
    ∧ sl.r_97 (F := Ideal) c arg4 harg4 x3 (ix2 0 r)
      = (((T.J 1 r).w 2 : ℝ) : EReal)
    ∧ sl.r_98 (F := Ideal) c arg4 harg4 x3 (ix2 0 r)
      = (((T.J 1 r).w 3 : ℝ) : EReal)
    ∧ sl.r_99 (F := Ideal) c arg4 harg4 x3 (ix2 0 r)
      = (((T.J 1 r).w 4 : ℝ) : EReal)
    ∧ sl.r_100 (F := Ideal) c arg4 harg4 x3 (ix2 0 r)
      = (((T.J 1 r).w 5 : ℝ) : EReal)
    ∧ sl.r_101 (F := Ideal) c arg4 harg4 x3 (ix2 0 r)
      = (((T.J 1 r).w 6 : ℝ) : EReal)
    ∧ sl.r_102 (F := Ideal) c arg4 harg4 x3 (ix2 0 r)
      = (((T.J 1 r).w 7 : ℝ) : EReal)
    ∧ sl.r_179 (F := Ideal) c arg4 harg4 x3 (ix2 0 r)
      = (((T.J 2 r).w 0 : ℝ) : EReal)
    ∧ sl.r_180 (F := Ideal) c arg4 harg4 x3 (ix2 0 r)
      = (((T.J 2 r).w 1 : ℝ) : EReal)
    ∧ sl.r_181 (F := Ideal) c arg4 harg4 x3 (ix2 0 r)
      = (((T.J 2 r).w 2 : ℝ) : EReal)
    ∧ sl.r_182 (F := Ideal) c arg4 harg4 x3 (ix2 0 r)
      = (((T.J 2 r).w 3 : ℝ) : EReal)
    ∧ sl.r_183 (F := Ideal) c arg4 harg4 x3 (ix2 0 r)
      = (((T.J 2 r).w 4 : ℝ) : EReal)
    ∧ sl.r_184 (F := Ideal) c arg4 harg4 x3 (ix2 0 r)
      = (((T.J 2 r).w 5 : ℝ) : EReal)
    ∧ sl.r_185 (F := Ideal) c arg4 harg4 x3 (ix2 0 r)
      = (((T.J 2 r).w 6 : ℝ) : EReal)
    ∧ sl.r_186 (F := Ideal) c arg4 harg4 x3 (ix2 0 r)
      = (((T.J 2 r).w 7 : ℝ) : EReal)
    ∧ sl.r_265 (F := Ideal) c arg4 harg4 x3 (ix2 0 r)
      = (((T.J 3 r).w 0 : ℝ) : EReal)
    ∧ sl.r_266 (F := Ideal) c arg4 harg4 x3 (ix2 0 r)
      = (((T.J 3 r).w 1 : ℝ) : EReal)
    ∧ sl.r_267 (F := Ideal) c arg4 harg4 x3 (ix2 0 r)
      = (((T.J 3 r).w 2 : ℝ) : EReal)
    ∧ sl.r_268 (F := Ideal) c arg4 harg4 x3 (ix2 0 r)
      = (((T.J 3 r).w 3 : ℝ) : EReal)
    ∧ sl.r_269 (F := Ideal) c arg4 harg4 x3 (ix2 0 r)
      = (((T.J 3 r).w 4 : ℝ) : EReal)
    ∧ sl.r_270 (F := Ideal) c arg4 harg4 x3 (ix2 0 r)
      = (((T.J 3 r).w 5 : ℝ) : EReal)
    ∧ sl.r_271 (F := Ideal) c arg4 harg4 x3 (ix2 0 r)
      = (((T.J 3 r).w 6 : ℝ) : EReal)
    ∧ sl.r_272 (F := Ideal) c arg4 harg4 x3 (ix2 0 r)
      = (((T.J 3 r).w 7 : ℝ) : EReal) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals pointwise [
    sl.r_13, sl.r_14, sl.r_15, sl.r_16, sl.r_17, sl.r_18, sl.r_19, sl.r_20, sl.r_95, sl.r_96, sl.r_97, sl.r_98,
    sl.r_99, sl.r_100, sl.r_101, sl.r_102, sl.r_179, sl.r_180, sl.r_181, sl.r_182, sl.r_183, sl.r_184, sl.r_185,
    sl.r_186, sl.r_265, sl.r_266, sl.r_267, sl.r_268, sl.r_269, sl.r_270, sl.r_271, sl.r_272, k0_pay18, k0_pay14,
    k0_pay5, k0_pay13, k0_pay6, k0_pay7, k0_pay8, k0_pay9, k0_pay10, k0_pay11, k0_pay12, k0_pay19, k0_pay20, k0_pay21,
    k0_pay22, k0_pay23, k0_pay24, k0_pay25, k0_pay199, k0_pay186, k0_pay195, k0_pay194, k0_pay187, k0_pay188,
    k0_pay189, k0_pay190, k0_pay191, k0_pay192, k0_pay193, k0_pay200, k0_pay201, k0_pay202, k0_pay203, k0_pay204,
    k0_pay205, k0_pay206, k0_pay386, k0_pay372, k0_pay381, k0_pay380, k0_pay373, k0_pay374, k0_pay375, k0_pay376,
    k0_pay377, k0_pay378, k0_pay379, k0_pay387, k0_pay388, k0_pay389, k0_pay390, k0_pay391, k0_pay392, k0_pay393,
    k0_pay569, k0_pay555, k0_pay564, k0_pay563, k0_pay556, k0_pay557, k0_pay558, k0_pay559, k0_pay560, k0_pay561,
    k0_pay562, k0_pay570, k0_pay571, k0_pay572, k0_pay573, k0_pay574, k0_pay575, k0_pay576, sl.r_1, sl.r_9, sl.r_2,
    sl.r_3, sl.r_4, sl.r_5, sl.r_6, sl.r_7, sl.r_8, sl.r_82, sl.r_91, sl.r_83, sl.r_84, sl.r_85, sl.r_86, sl.r_87,
    sl.r_88, sl.r_89, sl.r_167, sl.r_175, sl.r_168, sl.r_169, sl.r_170, sl.r_171, sl.r_172, sl.r_173, sl.r_174,
    sl.r_252, sl.r_260, sl.r_253, sl.r_254, sl.r_255, sl.r_256, sl.r_257, sl.r_258, sl.r_259]
  all_goals simp only [
    ld3, H.μ, Fin.reduceFinMk, Fin.zero_eta, Fin.mk_one, zero_add, ← EReal.coe_mul, ← EReal.coe_add, ← EReal.coe_sub,
    ← coe_sum, max_coe_zero]
  all_goals simp only [cnt_fold, w_fold]

/-- The query's part of the attention network's input, for the four samples of a grid step. -/
theorem query_part (h : Fin 8) (r : Fin 512) :
    sl.r (F := Ideal) c arg1 harg1 arg5 harg5 x0 x4 (ix2 h r)
      = ((∑ j, (∑ d, T.W.Wa1 d h * T.W.Wq j d) * T.Q 0 r j : ℝ) : EReal)
    ∧ sl.r_81 (F := Ideal) c arg1 harg1 arg5 harg5 x0 x4 (ix2 h r)
      = ((∑ j, (∑ d, T.W.Wa1 d h * T.W.Wq j d) * T.Q 1 r j : ℝ) : EReal)
    ∧ sl.r_166 (F := Ideal) c arg1 harg1 arg5 harg5 x0 x4 (ix2 h r)
      = ((∑ j, (∑ d, T.W.Wa1 d h * T.W.Wq j d) * T.Q 2 r j : ℝ) : EReal) := by
  refine ⟨?_, ?_, ?_⟩
  all_goals pointwise [
    sl.r, sl.r_81, sl.r_166, k0_pay4, k0_pay185, k0_pay371, k0_pay370, sl.r_80, sl.r_165]
  all_goals simp only [
    ld0, ldw, H.q, H.wq, Fin.reduceFinMk, Fin.zero_eta, Fin.mk_one, zero_add, ← EReal.coe_mul, ← EReal.coe_add,
    ← EReal.coe_sub, ← coe_sum, max_coe_zero]

/-- The hidden numbers of the position network, for the four samples of a grid step. -/
theorem pos_hidden (h : Fin 8) (r : Fin 512) :
    sl.v368 (F := Ideal) c arg3 harg3 arg7 harg7 arg8 harg8 arg22 x2 x6 x7 (ix3 0 h r)
      = (((T.J 0 r).ph 0 h : ℝ) : EReal)
    ∧ sl.v396 (F := Ideal) c arg3 harg3 arg7 harg7 arg8 harg8 arg22 x2 x6 x7 (ix3 0 h r)
      = (((T.J 0 r).ph 1 h : ℝ) : EReal)
    ∧ sl.v424 (F := Ideal) c arg3 harg3 arg7 harg7 arg8 harg8 arg22 x2 x6 x7 (ix3 0 h r)
      = (((T.J 0 r).ph 2 h : ℝ) : EReal)
    ∧ sl.v452 (F := Ideal) c arg3 harg3 arg7 harg7 arg8 harg8 arg22 x2 x6 x7 (ix3 0 h r)
      = (((T.J 0 r).ph 3 h : ℝ) : EReal)
    ∧ sl.v480 (F := Ideal) c arg3 harg3 arg7 harg7 arg8 harg8 arg22 x2 x6 x7 (ix3 0 h r)
      = (((T.J 0 r).ph 4 h : ℝ) : EReal)
    ∧ sl.v508 (F := Ideal) c arg3 harg3 arg7 harg7 arg8 harg8 arg22 x2 x6 x7 (ix3 0 h r)
      = (((T.J 0 r).ph 5 h : ℝ) : EReal)
    ∧ sl.v536 (F := Ideal) c arg3 harg3 arg7 harg7 arg8 harg8 arg22 x2 x6 x7 (ix3 0 h r)
      = (((T.J 0 r).ph 6 h : ℝ) : EReal)
    ∧ sl.v564 (F := Ideal) c arg3 harg3 arg7 harg7 arg8 harg8 arg22 x2 x6 x7 (ix3 0 h r)
      = (((T.J 0 r).ph 7 h : ℝ) : EReal)
    ∧ sl.v1323 (F := Ideal) c arg3 harg3 arg7 harg7 arg8 harg8 arg22 x2 x6 x7 (ix3 0 h r)
      = (((T.J 1 r).ph 0 h : ℝ) : EReal)
    ∧ sl.v1351 (F := Ideal) c arg3 harg3 arg7 harg7 arg8 harg8 arg22 x2 x6 x7 (ix3 0 h r)
      = (((T.J 1 r).ph 1 h : ℝ) : EReal)
    ∧ sl.v1379 (F := Ideal) c arg3 harg3 arg7 harg7 arg8 harg8 arg22 x2 x6 x7 (ix3 0 h r)
      = (((T.J 1 r).ph 2 h : ℝ) : EReal)
    ∧ sl.v1407 (F := Ideal) c arg3 harg3 arg7 harg7 arg8 harg8 arg22 x2 x6 x7 (ix3 0 h r)
      = (((T.J 1 r).ph 3 h : ℝ) : EReal)
    ∧ sl.v1435 (F := Ideal) c arg3 harg3 arg7 harg7 arg8 harg8 arg22 x2 x6 x7 (ix3 0 h r)
      = (((T.J 1 r).ph 4 h : ℝ) : EReal)
    ∧ sl.v1463 (F := Ideal) c arg3 harg3 arg7 harg7 arg8 harg8 arg22 x2 x6 x7 (ix3 0 h r)
      = (((T.J 1 r).ph 5 h : ℝ) : EReal)
    ∧ sl.v1491 (F := Ideal) c arg3 harg3 arg7 harg7 arg8 harg8 arg22 x2 x6 x7 (ix3 0 h r)
      = (((T.J 1 r).ph 6 h : ℝ) : EReal)
    ∧ sl.v1519 (F := Ideal) c arg3 harg3 arg7 harg7 arg8 harg8 arg22 x2 x6 x7 (ix3 0 h r)
      = (((T.J 1 r).ph 7 h : ℝ) : EReal)
    ∧ sl.v2278 (F := Ideal) c arg3 harg3 arg7 harg7 arg8 harg8 arg22 x2 x6 x7 (ix3 0 h r)
      = (((T.J 2 r).ph 0 h : ℝ) : EReal)
    ∧ sl.v2306 (F := Ideal) c arg3 harg3 arg7 harg7 arg8 harg8 arg22 x2 x6 x7 (ix3 0 h r)
      = (((T.J 2 r).ph 1 h : ℝ) : EReal)
    ∧ sl.v2334 (F := Ideal) c arg3 harg3 arg7 harg7 arg8 harg8 arg22 x2 x6 x7 (ix3 0 h r)
      = (((T.J 2 r).ph 2 h : ℝ) : EReal)
    ∧ sl.v2362 (F := Ideal) c arg3 harg3 arg7 harg7 arg8 harg8 arg22 x2 x6 x7 (ix3 0 h r)
      = (((T.J 2 r).ph 3 h : ℝ) : EReal)
    ∧ sl.v2390 (F := Ideal) c arg3 harg3 arg7 harg7 arg8 harg8 arg22 x2 x6 x7 (ix3 0 h r)
      = (((T.J 2 r).ph 4 h : ℝ) : EReal)
    ∧ sl.v2418 (F := Ideal) c arg3 harg3 arg7 harg7 arg8 harg8 arg22 x2 x6 x7 (ix3 0 h r)
      = (((T.J 2 r).ph 5 h : ℝ) : EReal)
    ∧ sl.v2446 (F := Ideal) c arg3 harg3 arg7 harg7 arg8 harg8 arg22 x2 x6 x7 (ix3 0 h r)
      = (((T.J 2 r).ph 6 h : ℝ) : EReal)
    ∧ sl.v2474 (F := Ideal) c arg3 harg3 arg7 harg7 arg8 harg8 arg22 x2 x6 x7 (ix3 0 h r)
      = (((T.J 2 r).ph 7 h : ℝ) : EReal)
    ∧ sl.v3233 (F := Ideal) c arg3 harg3 arg7 harg7 arg8 harg8 arg22 x2 x6 x7 (ix3 0 h r)
      = (((T.J 3 r).ph 0 h : ℝ) : EReal)
    ∧ sl.v3261 (F := Ideal) c arg3 harg3 arg7 harg7 arg8 harg8 arg22 x2 x6 x7 (ix3 0 h r)
      = (((T.J 3 r).ph 1 h : ℝ) : EReal)
    ∧ sl.v3289 (F := Ideal) c arg3 harg3 arg7 harg7 arg8 harg8 arg22 x2 x6 x7 (ix3 0 h r)
      = (((T.J 3 r).ph 2 h : ℝ) : EReal)
    ∧ sl.v3317 (F := Ideal) c arg3 harg3 arg7 harg7 arg8 harg8 arg22 x2 x6 x7 (ix3 0 h r)
      = (((T.J 3 r).ph 3 h : ℝ) : EReal)
    ∧ sl.v3345 (F := Ideal) c arg3 harg3 arg7 harg7 arg8 harg8 arg22 x2 x6 x7 (ix3 0 h r)
      = (((T.J 3 r).ph 4 h : ℝ) : EReal)
    ∧ sl.v3373 (F := Ideal) c arg3 harg3 arg7 harg7 arg8 harg8 arg22 x2 x6 x7 (ix3 0 h r)
      = (((T.J 3 r).ph 5 h : ℝ) : EReal)
    ∧ sl.v3401 (F := Ideal) c arg3 harg3 arg7 harg7 arg8 harg8 arg22 x2 x6 x7 (ix3 0 h r)
      = (((T.J 3 r).ph 6 h : ℝ) : EReal)
    ∧ sl.v3429 (F := Ideal) c arg3 harg3 arg7 harg7 arg8 harg8 arg22 x2 x6 x7 (ix3 0 h r)
      = (((T.J 3 r).ph 7 h : ℝ) : EReal) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (repeat refine load_older _ _ _ _ _ _ (by decide) ?_)
  all_goals refine load_newest _ _ _ _ _ ?_
  all_goals pointwise [
    k0_pay89, k0_pay91, k0_pay90, k0_pay92, k0_pay94, k0_pay93, k0_pay95, k0_pay97, k0_pay96, k0_pay98, k0_pay99,
    k0_pay272, k0_pay274, k0_pay273, k0_pay275, k0_pay278, k0_pay277, k0_pay276, k0_pay279, k0_pay281, k0_pay280,
    k0_pay282, k0_pay283, k0_pay456, k0_pay458, k0_pay457, k0_pay459, k0_pay461, k0_pay460, k0_pay462, k0_pay463,
    k0_pay464, k0_pay465, k0_pay639, k0_pay641, k0_pay640, k0_pay642, k0_pay643, k0_pay644, k0_pay645, k0_pay647,
    k0_pay646, k0_pay648, sl.r_41, sl.r_42, sl.r_43, sl.r_44, sl.r_45, sl.r_129, sl.r_130, sl.r_131, sl.r_212,
    sl.r_213, sl.r_293, sl.r_294]
  all_goals simp only [
    ld2, ldw, H.p, H.wp1, H.bp1, Fin.reduceFinMk, Fin.zero_eta, Fin.mk_one, zero_add, ← EReal.coe_mul, ← EReal.coe_add,
    ← EReal.coe_sub, ← coe_sum, max_coe_zero]
  all_goals exact congrArg (fun z : ℝ => (z : EReal)) (ph_fold T _ r _ h)

/-- The value projections, for the four samples of a grid step. -/
theorem value_proj (d : Fin 64) (r : Fin 512) :
    sl.v371 (F := Ideal) c arg2 harg2 arg6 harg6 arg20 x1 x5 (ix3 0 d r)
      = T.vp0 x5 0 r 0 d
    ∧ sl.v399 (F := Ideal) c arg2 harg2 arg3 harg3 arg6 harg6 arg7 harg7 arg8 harg8 arg9 harg9 arg10 harg10 arg20 arg22 x1 x2 x5 x6 x7 x8 x9 (ix3 0 d r)
      = T.vp0 x5 0 r 1 d
    ∧ sl.v427 (F := Ideal) c arg2 harg2 arg3 harg3 arg6 harg6 arg7 harg7 arg8 harg8 arg9 harg9 arg10 harg10 arg20 arg22 x1 x2 x5 x6 x7 x8 x9 (ix3 0 d r)
      = T.vp0 x5 0 r 2 d
    ∧ sl.v455 (F := Ideal) c arg2 harg2 arg3 harg3 arg6 harg6 arg7 harg7 arg8 harg8 arg9 harg9 arg10 harg10 arg20 arg22 x1 x2 x5 x6 x7 x8 x9 (ix3 0 d r)
      = T.vp0 x5 0 r 3 d
    ∧ sl.v483 (F := Ideal) c arg2 harg2 arg3 harg3 arg6 harg6 arg7 harg7 arg8 harg8 arg9 harg9 arg10 harg10 arg20 arg22 x1 x2 x5 x6 x7 x8 x9 (ix3 0 d r)
      = T.vp0 x5 0 r 4 d
    ∧ sl.v511 (F := Ideal) c arg2 harg2 arg3 harg3 arg6 harg6 arg7 harg7 arg8 harg8 arg9 harg9 arg10 harg10 arg20 arg22 x1 x2 x5 x6 x7 x8 x9 (ix3 0 d r)
      = T.vp0 x5 0 r 5 d
    ∧ sl.v539 (F := Ideal) c arg2 harg2 arg3 harg3 arg6 harg6 arg7 harg7 arg8 harg8 arg9 harg9 arg10 harg10 arg20 arg22 x1 x2 x5 x6 x7 x8 x9 (ix3 0 d r)
      = T.vp0 x5 0 r 6 d
    ∧ sl.v567 (F := Ideal) c arg2 harg2 arg3 harg3 arg6 harg6 arg7 harg7 arg8 harg8 arg9 harg9 arg10 harg10 arg20 arg22 x1 x2 x5 x6 x7 x8 x9 (ix3 0 d r)
      = T.vp0 x5 0 r 7 d
    ∧ sl.v1326 (F := Ideal) c arg2 harg2 arg3 harg3 arg6 harg6 arg7 harg7 arg8 harg8 arg9 harg9 arg10 harg10 arg20 arg22 x1 x2 x5 x6 x7 x8 x9 (ix3 0 d r)
      = T.vp0 x5 1 r 0 d
    ∧ sl.v1354 (F := Ideal) c arg2 harg2 arg3 harg3 arg6 harg6 arg7 harg7 arg8 harg8 arg9 harg9 arg10 harg10 arg20 arg22 x1 x2 x5 x6 x7 x8 x9 (ix3 0 d r)
      = T.vp0 x5 1 r 1 d
    ∧ sl.v1382 (F := Ideal) c arg2 harg2 arg3 harg3 arg6 harg6 arg7 harg7 arg8 harg8 arg9 harg9 arg10 harg10 arg20 arg22 x1 x2 x5 x6 x7 x8 x9 (ix3 0 d r)
      = T.vp0 x5 1 r 2 d
    ∧ sl.v1410 (F := Ideal) c arg2 harg2 arg3 harg3 arg6 harg6 arg7 harg7 arg8 harg8 arg9 harg9 arg10 harg10 arg20 arg22 x1 x2 x5 x6 x7 x8 x9 (ix3 0 d r)
      = T.vp0 x5 1 r 3 d
    ∧ sl.v1438 (F := Ideal) c arg2 harg2 arg3 harg3 arg6 harg6 arg7 harg7 arg8 harg8 arg9 harg9 arg10 harg10 arg20 arg22 x1 x2 x5 x6 x7 x8 x9 (ix3 0 d r)
      = T.vp0 x5 1 r 4 d
    ∧ sl.v1466 (F := Ideal) c arg2 harg2 arg3 harg3 arg6 harg6 arg7 harg7 arg8 harg8 arg9 harg9 arg10 harg10 arg20 arg22 x1 x2 x5 x6 x7 x8 x9 (ix3 0 d r)
      = T.vp0 x5 1 r 5 d
    ∧ sl.v1494 (F := Ideal) c arg2 harg2 arg3 harg3 arg6 harg6 arg7 harg7 arg8 harg8 arg9 harg9 arg10 harg10 arg20 arg22 x1 x2 x5 x6 x7 x8 x9 (ix3 0 d r)
      = T.vp0 x5 1 r 6 d
    ∧ sl.v1522 (F := Ideal) c arg2 harg2 arg3 harg3 arg6 harg6 arg7 harg7 arg8 harg8 arg9 harg9 arg10 harg10 arg20 arg22 x1 x2 x5 x6 x7 x8 x9 (ix3 0 d r)
      = T.vp0 x5 1 r 7 d
    ∧ sl.v2281 (F := Ideal) c arg2 harg2 arg3 harg3 arg6 harg6 arg7 harg7 arg8 harg8 arg9 harg9 arg10 harg10 arg20 arg22 x1 x2 x5 x6 x7 x8 x9 (ix3 0 d r)
      = T.vp0 x5 2 r 0 d
    ∧ sl.v2309 (F := Ideal) c arg2 harg2 arg3 harg3 arg6 harg6 arg7 harg7 arg8 harg8 arg9 harg9 arg10 harg10 arg20 arg22 x1 x2 x5 x6 x7 x8 x9 (ix3 0 d r)
      = T.vp0 x5 2 r 1 d
    ∧ sl.v2337 (F := Ideal) c arg2 harg2 arg3 harg3 arg6 harg6 arg7 harg7 arg8 harg8 arg9 harg9 arg10 harg10 arg20 arg22 x1 x2 x5 x6 x7 x8 x9 (ix3 0 d r)
      = T.vp0 x5 2 r 2 d
    ∧ sl.v2365 (F := Ideal) c arg2 harg2 arg3 harg3 arg6 harg6 arg7 harg7 arg8 harg8 arg9 harg9 arg10 harg10 arg20 arg22 x1 x2 x5 x6 x7 x8 x9 (ix3 0 d r)
      = T.vp0 x5 2 r 3 d
    ∧ sl.v2393 (F := Ideal) c arg2 harg2 arg3 harg3 arg6 harg6 arg7 harg7 arg8 harg8 arg9 harg9 arg10 harg10 arg20 arg22 x1 x2 x5 x6 x7 x8 x9 (ix3 0 d r)
      = T.vp0 x5 2 r 4 d
    ∧ sl.v2421 (F := Ideal) c arg2 harg2 arg3 harg3 arg6 harg6 arg7 harg7 arg8 harg8 arg9 harg9 arg10 harg10 arg20 arg22 x1 x2 x5 x6 x7 x8 x9 (ix3 0 d r)
      = T.vp0 x5 2 r 5 d
    ∧ sl.v2449 (F := Ideal) c arg2 harg2 arg3 harg3 arg6 harg6 arg7 harg7 arg8 harg8 arg9 harg9 arg10 harg10 arg20 arg22 x1 x2 x5 x6 x7 x8 x9 (ix3 0 d r)
      = T.vp0 x5 2 r 6 d
    ∧ sl.v2477 (F := Ideal) c arg2 harg2 arg3 harg3 arg6 harg6 arg7 harg7 arg8 harg8 arg9 harg9 arg10 harg10 arg20 arg22 x1 x2 x5 x6 x7 x8 x9 (ix3 0 d r)
      = T.vp0 x5 2 r 7 d
    ∧ sl.v3236 (F := Ideal) c arg2 harg2 arg3 harg3 arg6 harg6 arg7 harg7 arg8 harg8 arg9 harg9 arg10 harg10 arg20 arg22 x1 x2 x5 x6 x7 x8 x9 (ix3 0 d r)
      = T.vp0 x5 3 r 0 d
    ∧ sl.v3264 (F := Ideal) c arg2 harg2 arg3 harg3 arg6 harg6 arg7 harg7 arg8 harg8 arg9 harg9 arg10 harg10 arg20 arg22 x1 x2 x5 x6 x7 x8 x9 (ix3 0 d r)
      = T.vp0 x5 3 r 1 d
    ∧ sl.v3292 (F := Ideal) c arg2 harg2 arg3 harg3 arg6 harg6 arg7 harg7 arg8 harg8 arg9 harg9 arg10 harg10 arg20 arg22 x1 x2 x5 x6 x7 x8 x9 (ix3 0 d r)
      = T.vp0 x5 3 r 2 d
    ∧ sl.v3320 (F := Ideal) c arg2 harg2 arg3 harg3 arg6 harg6 arg7 harg7 arg8 harg8 arg9 harg9 arg10 harg10 arg20 arg22 x1 x2 x5 x6 x7 x8 x9 (ix3 0 d r)
      = T.vp0 x5 3 r 3 d
    ∧ sl.v3348 (F := Ideal) c arg2 harg2 arg3 harg3 arg6 harg6 arg7 harg7 arg8 harg8 arg9 harg9 arg10 harg10 arg20 arg22 x1 x2 x5 x6 x7 x8 x9 (ix3 0 d r)
      = T.vp0 x5 3 r 4 d
    ∧ sl.v3376 (F := Ideal) c arg2 harg2 arg3 harg3 arg6 harg6 arg7 harg7 arg8 harg8 arg9 harg9 arg10 harg10 arg20 arg22 x1 x2 x5 x6 x7 x8 x9 (ix3 0 d r)
      = T.vp0 x5 3 r 5 d
    ∧ sl.v3404 (F := Ideal) c arg2 harg2 arg3 harg3 arg6 harg6 arg7 harg7 arg8 harg8 arg9 harg9 arg10 harg10 arg20 arg22 x1 x2 x5 x6 x7 x8 x9 (ix3 0 d r)
      = T.vp0 x5 3 r 6 d
    ∧ sl.v3432 (F := Ideal) c arg2 harg2 arg3 harg3 arg6 harg6 arg7 harg7 arg8 harg8 arg9 harg9 arg10 harg10 arg20 arg22 x1 x2 x5 x6 x7 x8 x9 (ix3 0 d r)
      = T.vp0 x5 3 r 7 d := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (repeat refine load_older _ _ _ _ _ _ (by decide) ?_)
  all_goals refine load_newest _ _ _ _ _ ?_
  all_goals pointwise [
    k0_pay31, k0_pay29, k0_pay36, k0_pay34, k0_pay44, k0_pay42, k0_pay52, k0_pay50, k0_pay58, k0_pay56, k0_pay66,
    k0_pay64, k0_pay71, k0_pay69, k0_pay79, k0_pay77, k0_pay213, k0_pay212, k0_pay210, k0_pay218, k0_pay216, k0_pay227,
    k0_pay225, k0_pay224, k0_pay235, k0_pay233, k0_pay240, k0_pay238, k0_pay249, k0_pay248, k0_pay246, k0_pay254,
    k0_pay252, k0_pay263, k0_pay261, k0_pay260, k0_pay399, k0_pay397, k0_pay404, k0_pay402, k0_pay413, k0_pay411,
    k0_pay410, k0_pay420, k0_pay418, k0_pay426, k0_pay424, k0_pay434, k0_pay432, k0_pay439, k0_pay437, k0_pay448,
    k0_pay446, k0_pay445, k0_pay582, k0_pay580, k0_pay588, k0_pay586, k0_pay596, k0_pay594, k0_pay601, k0_pay599,
    k0_pay609, k0_pay607, k0_pay617, k0_pay615, k0_pay623, k0_pay621, k0_pay631, k0_pay629, sl.r_21, sl.r_33, sl.r_105,
    sl.r_109, sl.r_120, sl.r_124, sl.r_189, sl.r_193, sl.r_204, sl.r_208, sl.r_278, sl.r_290]
  all_goals simp only [
    ld1, ldw, H.k, Fin.reduceFinMk, Fin.zero_eta, Fin.mk_one, zero_add, ← EReal.coe_mul, ← EReal.coe_add,
    ← EReal.coe_sub, ← coe_sum, max_coe_zero]
  all_goals rfl

/-- The keys' part of the attention network's input, for the four samples of a grid step. -/
theorem key_part (h : Fin 8) (r : Fin 512) :
    sl.v381 (F := Ideal) c arg2 harg2 arg6 harg6 arg21 x1 x5 (ix3 0 h r)
      = ((∑ j, (∑ d, T.W.Wa1 d h * T.W.Wk j d) * T.K 0 r 0 j : ℝ) : EReal)
    ∧ sl.v409 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 0 r 1 j : ℝ) : EReal)
    ∧ sl.v437 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 0 r 2 j : ℝ) : EReal)
    ∧ sl.v465 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 0 r 3 j : ℝ) : EReal)
    ∧ sl.v493 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 0 r 4 j : ℝ) : EReal)
    ∧ sl.v521 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 0 r 5 j : ℝ) : EReal)
    ∧ sl.v549 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 0 r 6 j : ℝ) : EReal)
    ∧ sl.v577 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 0 r 7 j : ℝ) : EReal)
    ∧ sl.v1336 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 1 r 0 j : ℝ) : EReal)
    ∧ sl.v1364 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 1 r 1 j : ℝ) : EReal)
    ∧ sl.v1392 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 1 r 2 j : ℝ) : EReal)
    ∧ sl.v1420 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 1 r 3 j : ℝ) : EReal)
    ∧ sl.v1448 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 1 r 4 j : ℝ) : EReal)
    ∧ sl.v1476 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 1 r 5 j : ℝ) : EReal)
    ∧ sl.v1504 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 1 r 6 j : ℝ) : EReal)
    ∧ sl.v1532 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 1 r 7 j : ℝ) : EReal)
    ∧ sl.v2291 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 2 r 0 j : ℝ) : EReal)
    ∧ sl.v2319 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 2 r 1 j : ℝ) : EReal)
    ∧ sl.v2347 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 2 r 2 j : ℝ) : EReal)
    ∧ sl.v2375 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 2 r 3 j : ℝ) : EReal)
    ∧ sl.v2403 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 2 r 4 j : ℝ) : EReal)
    ∧ sl.v2431 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 2 r 5 j : ℝ) : EReal)
    ∧ sl.v2459 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 2 r 6 j : ℝ) : EReal)
    ∧ sl.v2487 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 2 r 7 j : ℝ) : EReal)
    ∧ sl.v3246 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 3 r 0 j : ℝ) : EReal)
    ∧ sl.v3274 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 3 r 1 j : ℝ) : EReal)
    ∧ sl.v3302 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 3 r 2 j : ℝ) : EReal)
    ∧ sl.v3330 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 3 r 3 j : ℝ) : EReal)
    ∧ sl.v3358 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 3 r 4 j : ℝ) : EReal)
    ∧ sl.v3386 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 3 r 5 j : ℝ) : EReal)
    ∧ sl.v3414 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 3 r 6 j : ℝ) : EReal)
    ∧ sl.v3442 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = ((∑ j, (∑ d, T.W.Wa1 d h * T.W.Wk j d) * T.K 3 r 7 j : ℝ) : EReal) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (repeat refine load_older _ _ _ _ _ _ (by decide) ?_)
  all_goals refine load_newest _ _ _ _ _ ?_
  all_goals pointwise [
    k0_pay32, k0_pay29, k0_pay37, k0_pay34, k0_pay45, k0_pay42, k0_pay54, k0_pay53, k0_pay50, k0_pay59, k0_pay56,
    k0_pay67, k0_pay64, k0_pay72, k0_pay69, k0_pay80, k0_pay77, k0_pay214, k0_pay210, k0_pay219, k0_pay216, k0_pay228,
    k0_pay225, k0_pay224, k0_pay236, k0_pay233, k0_pay241, k0_pay238, k0_pay250, k0_pay246, k0_pay255, k0_pay252,
    k0_pay264, k0_pay261, k0_pay260, k0_pay400, k0_pay397, k0_pay405, k0_pay402, k0_pay414, k0_pay411, k0_pay410,
    k0_pay421, k0_pay418, k0_pay427, k0_pay424, k0_pay435, k0_pay432, k0_pay440, k0_pay437, k0_pay449, k0_pay446,
    k0_pay445, k0_pay584, k0_pay583, k0_pay580, k0_pay589, k0_pay586, k0_pay597, k0_pay594, k0_pay602, k0_pay599,
    k0_pay610, k0_pay607, k0_pay619, k0_pay618, k0_pay615, k0_pay624, k0_pay621, k0_pay632, k0_pay629, sl.r_21,
    sl.r_29, sl.r_33, sl.r_103, sl.r_109, sl.r_114, sl.r_118, sl.r_124, sl.r_187, sl.r_193, sl.r_202, sl.r_208,
    sl.r_274, sl.r_278, sl.r_286, sl.r_290]
  all_goals simp only [
    ld1, ldw, H.k, H.wk, H.wak, Fin.reduceFinMk, Fin.zero_eta, Fin.mk_one, zero_add, ← EReal.coe_mul, ← EReal.coe_add,
    ← EReal.coe_sub, ← coe_sum, max_coe_zero]

end Cert.KVal
end
-- ==== Proof.BodyAttn.lean ====
/- The attention of the four samples of a grid step, register by register. -/
module

public import proofs.«01_k».proof.Proof.BodyIn
public import proofs.«01_k».proof.Proof.Gen.KernelIdeal.Frame.RunA

@[expose] public section

set_option maxRecDepth 16384

noncomputable section

namespace Cert.KVal

open Idealize.ShloMosaic Idealize.ShloMosaic.TcCoe Cert.Model Cert.KernelIdeal Cert.KernelIdeal.Gen Cert.KernelIdeal.Gen.kernelRun0_A

variable {c : Dev nD}
variable {arg1 : Memref sig .tc .vmem S4x64x512 .f32} {harg1 : arg1.IsWhole}
variable {arg2 : Memref sig .tc .vmem S4x8x64x512 .f32} {harg2 : arg2.IsWhole}
variable {arg3 : Memref sig .tc .vmem S4x8x4x512 .f32} {harg3 : arg3.IsWhole}
variable {arg4 : Memref sig .tc .vmem S4x8x512 .f32} {harg4 : arg4.IsWhole}
variable {arg5 : Memref sig .tc .vmem S72x64 .f32} {harg5 : arg5.IsWhole}
variable {arg6 : Memref sig .tc .vmem S136x64 .f32} {harg6 : arg6.IsWhole}
variable {arg7 : Memref sig .tc .vmem S8x4 .f32} {harg7 : arg7.IsWhole}
variable {arg8 : Memref sig .tc .vmem S8x512 .f32} {harg8 : arg8.IsWhole}
variable {arg9 : Memref sig .tc .vmem S72x8 .f32} {harg9 : arg9.IsWhole}
variable {arg10 : Memref sig .tc .vmem S64x512 .f32} {harg10 : arg10.IsWhole}
variable {arg11 : Memref sig .tc .vmem S8x512 .f32} {harg11 : arg11.IsWhole}
variable {arg12 : Memref sig .tc .vmem S64x8 .f32} {harg12 : arg12.IsWhole}
variable {arg13 : Memref sig .tc .vmem S64x512 .f32} {harg13 : arg13.IsWhole}
variable {arg14 : Memref sig .tc .vmem S64x64 .f32} {harg14 : arg14.IsWhole}
variable {arg15 : Memref sig .tc .vmem S64x512 .f32} {harg15 : arg15.IsWhole}
variable {arg16 : Memref sig .tc .vmem S4x64x512 .f32} {harg16 : arg16.IsWhole}
variable {arg17 : Memref sig .tc .vmem S4x8x64x512 .f32} {harg17 : arg17.IsWhole}
variable {arg18 : Memref sig .tc .vmem S4x64x512 .f32} {harg18 : arg18.IsWhole}
variable {arg19 : Memref sig .tc .vmem S4x64x512 .f32} {harg19 : arg19.IsWhole}
variable {arg20 : Memref sig .tc .vmem S8x64x512 .f32} {harg20 : arg20.IsWhole}
variable {arg21 : Memref sig .tc .vmem S8x8x512 .f32} {harg21 : arg21.IsWhole}
variable {arg22 : Memref sig .tc .vmem S8x8x512 .f32} {harg22 : arg22.IsWhole}
variable {x0 : Vec Ideal S4x64x512 .f32}
variable {x1 : Vec Ideal S4x8x64x512 .f32}
variable {x2 : Vec Ideal S4x8x4x512 .f32}
variable {x3 : Vec Ideal S4x8x512 .f32}
variable {x4 : Vec Ideal S72x64 .f32}
variable {x5 : Vec Ideal S136x64 .f32}
variable {x6 : Vec Ideal S8x4 .f32}
variable {x7 : Vec Ideal S8x512 .f32}
variable {x8 : Vec Ideal S72x8 .f32}
variable {x9 : Vec Ideal S64x512 .f32}
variable {x10 : Vec Ideal S8x512 .f32}
variable {x11 : Vec Ideal S64x8 .f32}
variable {x12 : Vec Ideal S64x512 .f32}
variable {x13 : Vec Ideal S64x64 .f32}
variable {x14 : Vec Ideal S64x512 .f32}
variable {T : Tile} (H : T.Holds x0 x1 x2 x3 x4 x5 x6 x7 x8 x9 x10 x11 x12)
include H

/-- The values with their position numbers, for the four samples of a grid step. -/
theorem value_pos (d : Fin 64) (r : Fin 512) :
    sl.v762 (F := Ideal) c arg2 harg2 arg3 harg3 arg6 harg6 arg7 harg7 arg8 harg8 arg9 harg9 arg10 harg10 arg20 arg22 x1 x2 x5 x6 x7 x8 x9 (ix3 0 d r)
      = T.vp x5 0 r 0 d
    ∧ sl.v780 (F := Ideal) c arg2 harg2 arg3 harg3 arg6 harg6 arg7 harg7 arg8 harg8 arg9 harg9 arg10 harg10 arg20 arg22 x1 x2 x5 x6 x7 x8 x9 (ix3 0 d r)
      = T.vp x5 0 r 1 d
    ∧ sl.v798 (F := Ideal) c arg2 harg2 arg3 harg3 arg6 harg6 arg7 harg7 arg8 harg8 arg9 harg9 arg10 harg10 arg20 arg22 x1 x2 x5 x6 x7 x8 x9 (ix3 0 d r)
      = T.vp x5 0 r 2 d
    ∧ sl.v816 (F := Ideal) c arg2 harg2 arg3 harg3 arg6 harg6 arg7 harg7 arg8 harg8 arg9 harg9 arg10 harg10 arg20 arg22 x1 x2 x5 x6 x7 x8 x9 (ix3 0 d r)
      = T.vp x5 0 r 3 d
    ∧ sl.v834 (F := Ideal) c arg2 harg2 arg3 harg3 arg6 harg6 arg7 harg7 arg8 harg8 arg9 harg9 arg10 harg10 arg20 arg22 x1 x2 x5 x6 x7 x8 x9 (ix3 0 d r)
      = T.vp x5 0 r 4 d
    ∧ sl.v852 (F := Ideal) c arg2 harg2 arg3 harg3 arg6 harg6 arg7 harg7 arg8 harg8 arg9 harg9 arg10 harg10 arg20 arg22 x1 x2 x5 x6 x7 x8 x9 (ix3 0 d r)
      = T.vp x5 0 r 5 d
    ∧ sl.v870 (F := Ideal) c arg2 harg2 arg3 harg3 arg6 harg6 arg7 harg7 arg8 harg8 arg9 harg9 arg10 harg10 arg20 arg22 x1 x2 x5 x6 x7 x8 x9 (ix3 0 d r)
      = T.vp x5 0 r 6 d
    ∧ sl.v888 (F := Ideal) c arg2 harg2 arg3 harg3 arg6 harg6 arg7 harg7 arg8 harg8 arg9 harg9 arg10 harg10 arg20 arg22 x1 x2 x5 x6 x7 x8 x9 (ix3 0 d r)
      = T.vp x5 0 r 7 d
    ∧ sl.v1717 (F := Ideal) c arg2 harg2 arg3 harg3 arg6 harg6 arg7 harg7 arg8 harg8 arg9 harg9 arg10 harg10 arg20 arg22 x1 x2 x5 x6 x7 x8 x9 (ix3 0 d r)
      = T.vp x5 1 r 0 d
    ∧ sl.v1735 (F := Ideal) c arg2 harg2 arg3 harg3 arg6 harg6 arg7 harg7 arg8 harg8 arg9 harg9 arg10 harg10 arg20 arg22 x1 x2 x5 x6 x7 x8 x9 (ix3 0 d r)
      = T.vp x5 1 r 1 d
    ∧ sl.v1753 (F := Ideal) c arg2 harg2 arg3 harg3 arg6 harg6 arg7 harg7 arg8 harg8 arg9 harg9 arg10 harg10 arg20 arg22 x1 x2 x5 x6 x7 x8 x9 (ix3 0 d r)
      = T.vp x5 1 r 2 d
    ∧ sl.v1771 (F := Ideal) c arg2 harg2 arg3 harg3 arg6 harg6 arg7 harg7 arg8 harg8 arg9 harg9 arg10 harg10 arg20 arg22 x1 x2 x5 x6 x7 x8 x9 (ix3 0 d r)
      = T.vp x5 1 r 3 d
    ∧ sl.v1789 (F := Ideal) c arg2 harg2 arg3 harg3 arg6 harg6 arg7 harg7 arg8 harg8 arg9 harg9 arg10 harg10 arg20 arg22 x1 x2 x5 x6 x7 x8 x9 (ix3 0 d r)
      = T.vp x5 1 r 4 d
    ∧ sl.v1807 (F := Ideal) c arg2 harg2 arg3 harg3 arg6 harg6 arg7 harg7 arg8 harg8 arg9 harg9 arg10 harg10 arg20 arg22 x1 x2 x5 x6 x7 x8 x9 (ix3 0 d r)
      = T.vp x5 1 r 5 d
    ∧ sl.v1825 (F := Ideal) c arg2 harg2 arg3 harg3 arg6 harg6 arg7 harg7 arg8 harg8 arg9 harg9 arg10 harg10 arg20 arg22 x1 x2 x5 x6 x7 x8 x9 (ix3 0 d r)
      = T.vp x5 1 r 6 d
    ∧ sl.v1843 (F := Ideal) c arg2 harg2 arg3 harg3 arg6 harg6 arg7 harg7 arg8 harg8 arg9 harg9 arg10 harg10 arg20 arg22 x1 x2 x5 x6 x7 x8 x9 (ix3 0 d r)
      = T.vp x5 1 r 7 d
    ∧ sl.v2672 (F := Ideal) c arg2 harg2 arg3 harg3 arg6 harg6 arg7 harg7 arg8 harg8 arg9 harg9 arg10 harg10 arg20 arg22 x1 x2 x5 x6 x7 x8 x9 (ix3 0 d r)
      = T.vp x5 2 r 0 d
    ∧ sl.v2690 (F := Ideal) c arg2 harg2 arg3 harg3 arg6 harg6 arg7 harg7 arg8 harg8 arg9 harg9 arg10 harg10 arg20 arg22 x1 x2 x5 x6 x7 x8 x9 (ix3 0 d r)
      = T.vp x5 2 r 1 d
    ∧ sl.v2708 (F := Ideal) c arg2 harg2 arg3 harg3 arg6 harg6 arg7 harg7 arg8 harg8 arg9 harg9 arg10 harg10 arg20 arg22 x1 x2 x5 x6 x7 x8 x9 (ix3 0 d r)
      = T.vp x5 2 r 2 d
    ∧ sl.v2726 (F := Ideal) c arg2 harg2 arg3 harg3 arg6 harg6 arg7 harg7 arg8 harg8 arg9 harg9 arg10 harg10 arg20 arg22 x1 x2 x5 x6 x7 x8 x9 (ix3 0 d r)
      = T.vp x5 2 r 3 d
    ∧ sl.v2744 (F := Ideal) c arg2 harg2 arg3 harg3 arg6 harg6 arg7 harg7 arg8 harg8 arg9 harg9 arg10 harg10 arg20 arg22 x1 x2 x5 x6 x7 x8 x9 (ix3 0 d r)
      = T.vp x5 2 r 4 d
    ∧ sl.v2762 (F := Ideal) c arg2 harg2 arg3 harg3 arg6 harg6 arg7 harg7 arg8 harg8 arg9 harg9 arg10 harg10 arg20 arg22 x1 x2 x5 x6 x7 x8 x9 (ix3 0 d r)
      = T.vp x5 2 r 5 d
    ∧ sl.v2780 (F := Ideal) c arg2 harg2 arg3 harg3 arg6 harg6 arg7 harg7 arg8 harg8 arg9 harg9 arg10 harg10 arg20 arg22 x1 x2 x5 x6 x7 x8 x9 (ix3 0 d r)
      = T.vp x5 2 r 6 d
    ∧ sl.v2798 (F := Ideal) c arg2 harg2 arg3 harg3 arg6 harg6 arg7 harg7 arg8 harg8 arg9 harg9 arg10 harg10 arg20 arg22 x1 x2 x5 x6 x7 x8 x9 (ix3 0 d r)
      = T.vp x5 2 r 7 d
    ∧ sl.v3627 (F := Ideal) c arg2 harg2 arg3 harg3 arg6 harg6 arg7 harg7 arg8 harg8 arg9 harg9 arg10 harg10 arg20 arg22 x1 x2 x5 x6 x7 x8 x9 (ix3 0 d r)
      = T.vp x5 3 r 0 d
    ∧ sl.v3645 (F := Ideal) c arg2 harg2 arg3 harg3 arg6 harg6 arg7 harg7 arg8 harg8 arg9 harg9 arg10 harg10 arg20 arg22 x1 x2 x5 x6 x7 x8 x9 (ix3 0 d r)
      = T.vp x5 3 r 1 d
    ∧ sl.v3663 (F := Ideal) c arg2 harg2 arg3 harg3 arg6 harg6 arg7 harg7 arg8 harg8 arg9 harg9 arg10 harg10 arg20 arg22 x1 x2 x5 x6 x7 x8 x9 (ix3 0 d r)
      = T.vp x5 3 r 2 d
    ∧ sl.v3681 (F := Ideal) c arg2 harg2 arg3 harg3 arg6 harg6 arg7 harg7 arg8 harg8 arg9 harg9 arg10 harg10 arg20 arg22 x1 x2 x5 x6 x7 x8 x9 (ix3 0 d r)
      = T.vp x5 3 r 3 d
    ∧ sl.v3699 (F := Ideal) c arg2 harg2 arg3 harg3 arg6 harg6 arg7 harg7 arg8 harg8 arg9 harg9 arg10 harg10 arg20 arg22 x1 x2 x5 x6 x7 x8 x9 (ix3 0 d r)
      = T.vp x5 3 r 4 d
    ∧ sl.v3717 (F := Ideal) c arg2 harg2 arg3 harg3 arg6 harg6 arg7 harg7 arg8 harg8 arg9 harg9 arg10 harg10 arg20 arg22 x1 x2 x5 x6 x7 x8 x9 (ix3 0 d r)
      = T.vp x5 3 r 5 d
    ∧ sl.v3735 (F := Ideal) c arg2 harg2 arg3 harg3 arg6 harg6 arg7 harg7 arg8 harg8 arg9 harg9 arg10 harg10 arg20 arg22 x1 x2 x5 x6 x7 x8 x9 (ix3 0 d r)
      = T.vp x5 3 r 6 d
    ∧ sl.v3753 (F := Ideal) c arg2 harg2 arg3 harg3 arg6 harg6 arg7 harg7 arg8 harg8 arg9 harg9 arg10 harg10 arg20 arg22 x1 x2 x5 x6 x7 x8 x9 (ix3 0 d r)
      = T.vp x5 3 r 7 d := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (repeat refine load_older _ _ _ _ _ _ (by decide) ?_)
  all_goals refine load_newest _ _ _ _ _ ?_
  all_goals pointwise [
    k0_pay101, k0_pay100, k0_pay105, k0_pay104, k0_pay103, k0_pay108, k0_pay107, k0_pay112, k0_pay111, k0_pay110,
    k0_pay116, k0_pay115, k0_pay114, k0_pay119, k0_pay118, k0_pay123, k0_pay122, k0_pay128, k0_pay127, k0_pay286,
    k0_pay285, k0_pay284, k0_pay289, k0_pay288, k0_pay293, k0_pay292, k0_pay291, k0_pay297, k0_pay296, k0_pay295,
    k0_pay300, k0_pay299, k0_pay303, k0_pay302, k0_pay307, k0_pay306, k0_pay311, k0_pay310, k0_pay468, k0_pay467,
    k0_pay466, k0_pay471, k0_pay470, k0_pay476, k0_pay474, k0_pay473, k0_pay475, k0_pay479, k0_pay478, k0_pay482,
    k0_pay481, k0_pay486, k0_pay485, k0_pay490, k0_pay489, k0_pay494, k0_pay493, k0_pay650, k0_pay649, k0_pay654,
    k0_pay653, k0_pay652, k0_pay658, k0_pay657, k0_pay656, k0_pay661, k0_pay660, k0_pay664, k0_pay663, k0_pay668,
    k0_pay667, k0_pay672, k0_pay671, k0_pay675, k0_pay674, sl.r_46, sl.r_47, sl.r_49, sl.r_50, sl.r_52, sl.r_132,
    sl.r_133, sl.r_135, sl.r_137, sl.r_214, sl.r_215, sl.r_217, sl.r_218, sl.r_220, sl.r_295, sl.r_297, sl.r_299]
  all_goals simp only [
    ldw, H.wp2, H.wap, H.bp2,
    pos_hidden (c := c) (arg3 := arg3) (harg3 := harg3) (arg7 := arg7) (harg7 := harg7) (arg8 := arg8) (harg8 := harg8) (arg22 := arg22) H,
    value_proj (c := c) (arg2 := arg2) (harg2 := harg2) (arg3 := arg3) (harg3 := harg3) (arg6 := arg6) (harg6 := harg6) (arg7 := arg7) (harg7 := harg7) (arg8 := arg8) (harg8 := harg8) (arg9 := arg9) (harg9 := harg9) (arg10 := arg10) (harg10 := harg10) (arg20 := arg20) (arg22 := arg22) H,
    Fin.reduceFinMk, Fin.zero_eta, Fin.mk_one, zero_add, ← EReal.coe_mul, ← EReal.coe_add, ← EReal.coe_sub, ← coe_sum,
    max_coe_zero]
  all_goals exact vp_fold T _ r x5 _ d

/-- The hidden numbers of the attention network, for the four samples of a grid step. -/
theorem attn_hidden (h : Fin 8) (r : Fin 512) :
    sl.v592 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 0 r).a1 0 h : ℝ) : EReal)
    ∧ sl.v603 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 0 r).a1 1 h : ℝ) : EReal)
    ∧ sl.v614 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 0 r).a1 2 h : ℝ) : EReal)
    ∧ sl.v625 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 0 r).a1 3 h : ℝ) : EReal)
    ∧ sl.v636 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 0 r).a1 4 h : ℝ) : EReal)
    ∧ sl.v647 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 0 r).a1 5 h : ℝ) : EReal)
    ∧ sl.v658 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 0 r).a1 6 h : ℝ) : EReal)
    ∧ sl.v669 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 0 r).a1 7 h : ℝ) : EReal)
    ∧ sl.v1547 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 1 r).a1 0 h : ℝ) : EReal)
    ∧ sl.v1558 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 1 r).a1 1 h : ℝ) : EReal)
    ∧ sl.v1569 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 1 r).a1 2 h : ℝ) : EReal)
    ∧ sl.v1580 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 1 r).a1 3 h : ℝ) : EReal)
    ∧ sl.v1591 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 1 r).a1 4 h : ℝ) : EReal)
    ∧ sl.v1602 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 1 r).a1 5 h : ℝ) : EReal)
    ∧ sl.v1613 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 1 r).a1 6 h : ℝ) : EReal)
    ∧ sl.v1624 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 1 r).a1 7 h : ℝ) : EReal)
    ∧ sl.v2502 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 2 r).a1 0 h : ℝ) : EReal)
    ∧ sl.v2513 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 2 r).a1 1 h : ℝ) : EReal)
    ∧ sl.v2524 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 2 r).a1 2 h : ℝ) : EReal)
    ∧ sl.v2535 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 2 r).a1 3 h : ℝ) : EReal)
    ∧ sl.v2546 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 2 r).a1 4 h : ℝ) : EReal)
    ∧ sl.v2557 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 2 r).a1 5 h : ℝ) : EReal)
    ∧ sl.v2568 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 2 r).a1 6 h : ℝ) : EReal)
    ∧ sl.v2579 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 2 r).a1 7 h : ℝ) : EReal)
    ∧ sl.v3457 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 3 r).a1 0 h : ℝ) : EReal)
    ∧ sl.v3468 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 3 r).a1 1 h : ℝ) : EReal)
    ∧ sl.v3479 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 3 r).a1 2 h : ℝ) : EReal)
    ∧ sl.v3490 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 3 r).a1 3 h : ℝ) : EReal)
    ∧ sl.v3501 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 3 r).a1 4 h : ℝ) : EReal)
    ∧ sl.v3512 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 3 r).a1 5 h : ℝ) : EReal)
    ∧ sl.v3523 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 3 r).a1 6 h : ℝ) : EReal)
    ∧ sl.v3534 (F := Ideal) c arg1 harg1 arg2 harg2 arg3 harg3 arg5 harg5 arg6 harg6 arg7 harg7 arg8 harg8 arg9 harg9 arg11 harg11 arg21 arg22 x0 x1 x2 x4 x5 x6 x7 x8 x10 (ix3 0 h r)
      = (((T.J 3 r).a1 7 h : ℝ) : EReal) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (repeat refine load_older _ _ _ _ _ _ (by decide) ?_)
  all_goals refine load_newest _ _ _ _ _ ?_
  all_goals pointwise [
    k0_pay102, k0_pay100, k0_pay106, k0_pay104, k0_pay103, k0_pay109, k0_pay107, k0_pay113, k0_pay110, k0_pay117,
    k0_pay114, k0_pay121, k0_pay118, k0_pay120, k0_pay126, k0_pay124, k0_pay122, k0_pay125, k0_pay130, k0_pay129,
    k0_pay127, k0_pay287, k0_pay285, k0_pay284, k0_pay290, k0_pay288, k0_pay294, k0_pay291, k0_pay298, k0_pay295,
    k0_pay301, k0_pay299, k0_pay305, k0_pay304, k0_pay302, k0_pay309, k0_pay308, k0_pay306, k0_pay312, k0_pay310,
    k0_pay469, k0_pay467, k0_pay466, k0_pay472, k0_pay470, k0_pay477, k0_pay473, k0_pay480, k0_pay478, k0_pay484,
    k0_pay481, k0_pay483, k0_pay488, k0_pay487, k0_pay485, k0_pay492, k0_pay491, k0_pay489, k0_pay495, k0_pay493,
    k0_pay651, k0_pay554, k0_pay553, k0_pay649, k0_pay655, k0_pay652, k0_pay659, k0_pay656, k0_pay662, k0_pay660,
    k0_pay666, k0_pay665, k0_pay663, k0_pay670, k0_pay669, k0_pay667, k0_pay673, k0_pay671, k0_pay676, k0_pay674,
    sl.r_46, sl.r_47, sl.r_48, sl.r_51, sl.r_53, sl.r_54, sl.r_55, sl.r_56, sl.r_57, sl.r_132, sl.r_133, sl.r_134,
    sl.r_136, sl.r_138, sl.r_139, sl.r_140, sl.r_214, sl.r_215, sl.r_216, sl.r_219, sl.r_221, sl.r_222, sl.r_223,
    sl.r_224, sl.r_251, sl.r_250, sl.r_295, sl.r_296, sl.r_298, sl.r_300, sl.r_301, sl.r_302]
  all_goals simp only [
    ldw, ld0, H.wp2, H.wap, H.ba1, H.q, H.wq,
    query_part (c := c) (arg1 := arg1) (harg1 := harg1) (arg5 := arg5) (harg5 := harg5) H,
    pos_hidden (c := c) (arg3 := arg3) (harg3 := harg3) (arg7 := arg7) (harg7 := harg7) (arg8 := arg8) (harg8 := harg8) (arg22 := arg22) H,
    key_part (c := c) (arg1 := arg1) (harg1 := harg1) (arg2 := arg2) (harg2 := harg2) (arg3 := arg3) (harg3 := harg3) (arg5 := arg5) (harg5 := harg5) (arg6 := arg6) (harg6 := harg6) (arg7 := arg7) (harg7 := harg7) (arg8 := arg8) (harg8 := harg8) (arg9 := arg9) (harg9 := harg9) (arg11 := arg11) (harg11 := harg11) (arg21 := arg21) (arg22 := arg22) H,
    Fin.reduceFinMk, Fin.zero_eta, Fin.mk_one, zero_add, ← EReal.coe_mul, ← EReal.coe_add, ← EReal.coe_sub, ← coe_sum,
    max_coe_zero]
  all_goals exact congrArg (fun z : ℝ => (z : EReal)) (a1_fold T _ r _ h)

/-- The logits, for the four samples of a grid step. -/
theorem logits (d : Fin 64) (r : Fin 512) :
    sl.v680 (F := Ideal) c arg1 harg1 arg2 harg2 arg3 harg3 arg5 harg5 arg6 harg6 arg7 harg7 arg8 harg8 arg9 harg9 arg11 harg11 arg12 harg12 arg13 harg13 arg17 arg21 arg22 x0 x1 x2 x4 x5 x6 x7 x8 x10 x11 x12 (ix4 0 0 d r)
      = (((T.J 0 r).logit 0 d : ℝ) : EReal)
    ∧ sl.v688 (F := Ideal) c arg1 harg1 arg2 harg2 arg3 harg3 arg5 harg5 arg6 harg6 arg7 harg7 arg8 harg8 arg9 harg9 arg11 harg11 arg12 harg12 arg13 harg13 arg17 arg21 arg22 x0 x1 x2 x4 x5 x6 x7 x8 x10 x11 x12 (ix4 0 0 d r)
      = (((T.J 0 r).logit 1 d : ℝ) : EReal)
    ∧ sl.v771 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 0 r).logit 1 d : ℝ) : EReal)
    ∧ sl.v697 (F := Ideal) c arg1 harg1 arg2 harg2 arg3 harg3 arg5 harg5 arg6 harg6 arg7 harg7 arg8 harg8 arg9 harg9 arg11 harg11 arg12 harg12 arg13 harg13 arg17 arg21 arg22 x0 x1 x2 x4 x5 x6 x7 x8 x10 x11 x12 (ix4 0 0 d r)
      = (((T.J 0 r).logit 2 d : ℝ) : EReal)
    ∧ sl.v789 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 0 r).logit 2 d : ℝ) : EReal)
    ∧ sl.v706 (F := Ideal) c arg1 harg1 arg2 harg2 arg3 harg3 arg5 harg5 arg6 harg6 arg7 harg7 arg8 harg8 arg9 harg9 arg11 harg11 arg12 harg12 arg13 harg13 arg17 arg21 arg22 x0 x1 x2 x4 x5 x6 x7 x8 x10 x11 x12 (ix4 0 0 d r)
      = (((T.J 0 r).logit 3 d : ℝ) : EReal)
    ∧ sl.v807 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 0 r).logit 3 d : ℝ) : EReal)
    ∧ sl.v715 (F := Ideal) c arg1 harg1 arg2 harg2 arg3 harg3 arg5 harg5 arg6 harg6 arg7 harg7 arg8 harg8 arg9 harg9 arg11 harg11 arg12 harg12 arg13 harg13 arg17 arg21 arg22 x0 x1 x2 x4 x5 x6 x7 x8 x10 x11 x12 (ix4 0 0 d r)
      = (((T.J 0 r).logit 4 d : ℝ) : EReal)
    ∧ sl.v825 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 0 r).logit 4 d : ℝ) : EReal)
    ∧ sl.v724 (F := Ideal) c arg1 harg1 arg2 harg2 arg3 harg3 arg5 harg5 arg6 harg6 arg7 harg7 arg8 harg8 arg9 harg9 arg11 harg11 arg12 harg12 arg13 harg13 arg17 arg21 arg22 x0 x1 x2 x4 x5 x6 x7 x8 x10 x11 x12 (ix4 0 0 d r)
      = (((T.J 0 r).logit 5 d : ℝ) : EReal)
    ∧ sl.v843 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 0 r).logit 5 d : ℝ) : EReal)
    ∧ sl.v733 (F := Ideal) c arg1 harg1 arg2 harg2 arg3 harg3 arg5 harg5 arg6 harg6 arg7 harg7 arg8 harg8 arg9 harg9 arg11 harg11 arg12 harg12 arg13 harg13 arg17 arg21 arg22 x0 x1 x2 x4 x5 x6 x7 x8 x10 x11 x12 (ix4 0 0 d r)
      = (((T.J 0 r).logit 6 d : ℝ) : EReal)
    ∧ sl.v861 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 0 r).logit 6 d : ℝ) : EReal)
    ∧ sl.v742 (F := Ideal) c arg1 harg1 arg2 harg2 arg3 harg3 arg5 harg5 arg6 harg6 arg7 harg7 arg8 harg8 arg9 harg9 arg11 harg11 arg12 harg12 arg13 harg13 arg17 arg21 arg22 x0 x1 x2 x4 x5 x6 x7 x8 x10 x11 x12 (ix4 0 0 d r)
      = (((T.J 0 r).logit 7 d : ℝ) : EReal)
    ∧ sl.v879 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 0 r).logit 7 d : ℝ) : EReal)
    ∧ sl.v1635 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).logit 0 d : ℝ) : EReal)
    ∧ sl.v1643 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).logit 1 d : ℝ) : EReal)
    ∧ sl.v1726 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).logit 1 d : ℝ) : EReal)
    ∧ sl.v1652 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).logit 2 d : ℝ) : EReal)
    ∧ sl.v1744 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).logit 2 d : ℝ) : EReal)
    ∧ sl.v1661 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).logit 3 d : ℝ) : EReal)
    ∧ sl.v1762 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).logit 3 d : ℝ) : EReal)
    ∧ sl.v1670 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).logit 4 d : ℝ) : EReal)
    ∧ sl.v1780 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).logit 4 d : ℝ) : EReal)
    ∧ sl.v1679 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).logit 5 d : ℝ) : EReal)
    ∧ sl.v1798 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).logit 5 d : ℝ) : EReal)
    ∧ sl.v1688 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).logit 6 d : ℝ) : EReal)
    ∧ sl.v1816 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).logit 6 d : ℝ) : EReal)
    ∧ sl.v1697 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).logit 7 d : ℝ) : EReal)
    ∧ sl.v1834 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).logit 7 d : ℝ) : EReal)
    ∧ sl.v2590 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).logit 0 d : ℝ) : EReal)
    ∧ sl.v2598 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).logit 1 d : ℝ) : EReal)
    ∧ sl.v2681 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).logit 1 d : ℝ) : EReal)
    ∧ sl.v2607 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).logit 2 d : ℝ) : EReal)
    ∧ sl.v2699 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).logit 2 d : ℝ) : EReal)
    ∧ sl.v2616 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).logit 3 d : ℝ) : EReal)
    ∧ sl.v2717 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).logit 3 d : ℝ) : EReal)
    ∧ sl.v2625 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).logit 4 d : ℝ) : EReal)
    ∧ sl.v2735 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).logit 4 d : ℝ) : EReal)
    ∧ sl.v2634 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).logit 5 d : ℝ) : EReal)
    ∧ sl.v2753 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).logit 5 d : ℝ) : EReal)
    ∧ sl.v2643 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).logit 6 d : ℝ) : EReal)
    ∧ sl.v2771 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).logit 6 d : ℝ) : EReal)
    ∧ sl.v2652 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).logit 7 d : ℝ) : EReal)
    ∧ sl.v2789 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).logit 7 d : ℝ) : EReal)
    ∧ sl.v3545 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).logit 0 d : ℝ) : EReal)
    ∧ sl.v3553 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).logit 1 d : ℝ) : EReal)
    ∧ sl.v3636 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).logit 1 d : ℝ) : EReal)
    ∧ sl.v3562 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).logit 2 d : ℝ) : EReal)
    ∧ sl.v3654 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).logit 2 d : ℝ) : EReal)
    ∧ sl.v3571 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).logit 3 d : ℝ) : EReal)
    ∧ sl.v3672 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).logit 3 d : ℝ) : EReal)
    ∧ sl.v3580 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).logit 4 d : ℝ) : EReal)
    ∧ sl.v3690 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).logit 4 d : ℝ) : EReal)
    ∧ sl.v3589 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).logit 5 d : ℝ) : EReal)
    ∧ sl.v3708 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).logit 5 d : ℝ) : EReal)
    ∧ sl.v3598 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).logit 6 d : ℝ) : EReal)
    ∧ sl.v3726 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).logit 6 d : ℝ) : EReal)
    ∧ sl.v3607 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).logit 7 d : ℝ) : EReal)
    ∧ sl.v3744 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).logit 7 d : ℝ) : EReal) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (repeat refine load_older _ _ _ _ _ _ (by decide) ?_)
  all_goals refine load_newest _ _ _ _ _ ?_
  all_goals pointwise [
    k0_pay131, k0_pay132, k0_pay134, k0_pay133, k0_pay135, k0_pay137, k0_pay136, k0_pay138, k0_pay139, k0_pay141,
    k0_pay140, k0_pay313, k0_pay314, k0_pay316, k0_pay315, k0_pay317, k0_pay318, k0_pay319, k0_pay320, k0_pay322,
    k0_pay321, k0_pay497, k0_pay496, k0_pay498, k0_pay500, k0_pay499, k0_pay501, k0_pay502, k0_pay504, k0_pay503,
    k0_pay505, k0_pay507, k0_pay506, k0_pay678, k0_pay677, k0_pay679, k0_pay681, k0_pay680, k0_pay682, k0_pay683,
    k0_pay685, k0_pay684, k0_pay686, k0_pay688, k0_pay687, sl.r_58, sl.r_59, sl.r_60, sl.r_141, sl.r_142, sl.r_225,
    sl.r_226, sl.r_227, sl.r_228, sl.r_303, sl.r_304, sl.r_305, sl.r_306]
  all_goals simp only [
    ldw, H.wa2, H.ba2,
    attn_hidden (c := c) (arg1 := arg1) (harg1 := harg1) (arg2 := arg2) (harg2 := harg2) (arg3 := arg3) (harg3 := harg3) (arg5 := arg5) (harg5 := harg5) (arg6 := arg6) (harg6 := harg6) (arg7 := arg7) (harg7 := harg7) (arg8 := arg8) (harg8 := harg8) (arg9 := arg9) (harg9 := harg9) (arg11 := arg11) (harg11 := harg11) (arg21 := arg21) (arg22 := arg22) H,
    Fin.reduceFinMk, Fin.zero_eta, Fin.mk_one, zero_add, ← EReal.coe_mul, ← EReal.coe_add, ← EReal.coe_sub, ← coe_sum,
    max_coe_zero]
  all_goals exact congrArg (fun z : ℝ => (z : EReal)) (logit_fold T _ r _ d)

/-- The largest masked logit, for the four samples of a grid step. -/
theorem logit_max (d : Fin 64) (r : Fin 512) :
    sl.r_63 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix2 d r)
      = (((T.J 0 r).mx d : ℝ) : EReal)
    ∧ sl.r_147 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix2 d r)
      = (((T.J 1 r).mx d : ℝ) : EReal)
    ∧ sl.r_233 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix2 d r)
      = (((T.J 2 r).mx d : ℝ) : EReal)
    ∧ sl.r_313 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix2 d r)
      = (((T.J 3 r).mx d : ℝ) : EReal) := by
  refine ⟨?_, ?_, ?_, ?_⟩
  all_goals pointwise [
    sl.r_63, sl.r_147, sl.r_233, sl.r_313, k0_pay144, k0_pay143, k0_pay142, k0_pay327, k0_pay325, k0_pay323, k0_pay324,
    k0_pay326, k0_pay512, k0_pay510, k0_pay508, k0_pay509, k0_pay511, k0_pay695, k0_pay692, k0_pay689, k0_pay690,
    k0_pay691, k0_pay693, k0_pay694, sl.r_62, sl.r_61, sl.r_145, sl.r_143, sl.r_144, sl.r_146, sl.r_231, sl.r_229,
    sl.r_230, sl.r_232, sl.r_310, sl.r_307, sl.r_308, sl.cst_2883, sl.r_309, sl.r_311, sl.r_312]
  all_goals simp only [
    weight (c := c) (arg4 := arg4) (harg4 := harg4) H,
    logits (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (arg12 := arg12) (harg12 := harg12) (arg13 := arg13) (harg13 := harg13) (arg17 := arg17) (arg21 := arg21) (arg22 := arg22) H,
    Fin.reduceFinMk, Fin.zero_eta, Fin.mk_one, zero_add, ← EReal.coe_mul, ← EReal.coe_add, ← EReal.coe_sub, ← coe_sum,
    max_coe_zero]
  all_goals simp only [ofBits_bot, ml_fold, mx_fold]

/-- The exponential weights, for the four samples of a grid step. -/
theorem expo (d : Fin 64) (r : Fin 512) :
    sl.v897 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 0 r).e 0 d : ℝ) : EReal)
    ∧ sl.v903 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 0 r).e 1 d : ℝ) : EReal)
    ∧ sl.v909 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 0 r).e 2 d : ℝ) : EReal)
    ∧ sl.v915 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 0 r).e 3 d : ℝ) : EReal)
    ∧ sl.v921 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 0 r).e 4 d : ℝ) : EReal)
    ∧ sl.v927 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 0 r).e 5 d : ℝ) : EReal)
    ∧ sl.v933 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 0 r).e 6 d : ℝ) : EReal)
    ∧ sl.v939 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 0 r).e 7 d : ℝ) : EReal)
    ∧ sl.v1852 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).e 0 d : ℝ) : EReal)
    ∧ sl.v1858 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).e 1 d : ℝ) : EReal)
    ∧ sl.v1864 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).e 2 d : ℝ) : EReal)
    ∧ sl.v1870 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).e 3 d : ℝ) : EReal)
    ∧ sl.v1876 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).e 4 d : ℝ) : EReal)
    ∧ sl.v1882 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).e 5 d : ℝ) : EReal)
    ∧ sl.v1888 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).e 6 d : ℝ) : EReal)
    ∧ sl.v1894 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 1 r).e 7 d : ℝ) : EReal)
    ∧ sl.v2807 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).e 0 d : ℝ) : EReal)
    ∧ sl.v2813 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).e 1 d : ℝ) : EReal)
    ∧ sl.v2819 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).e 2 d : ℝ) : EReal)
    ∧ sl.v2825 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).e 3 d : ℝ) : EReal)
    ∧ sl.v2831 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).e 4 d : ℝ) : EReal)
    ∧ sl.v2837 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).e 5 d : ℝ) : EReal)
    ∧ sl.v2843 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).e 6 d : ℝ) : EReal)
    ∧ sl.v2849 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 2 r).e 7 d : ℝ) : EReal)
    ∧ sl.v3762 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).e 0 d : ℝ) : EReal)
    ∧ sl.v3768 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).e 1 d : ℝ) : EReal)
    ∧ sl.v3774 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).e 2 d : ℝ) : EReal)
    ∧ sl.v3780 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).e 3 d : ℝ) : EReal)
    ∧ sl.v3786 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).e 4 d : ℝ) : EReal)
    ∧ sl.v3792 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).e 5 d : ℝ) : EReal)
    ∧ sl.v3798 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).e 6 d : ℝ) : EReal)
    ∧ sl.v3804 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix4 0 0 d r)
      = (((T.J 3 r).e 7 d : ℝ) : EReal) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (repeat refine load_older _ _ _ _ _ _ (by decide) ?_)
  all_goals refine load_newest _ _ _ _ _ ?_
  all_goals pointwise [
    k0_pay148, k0_pay145, k0_pay144, k0_pay143, k0_pay142, k0_pay152, k0_pay151, k0_pay149, k0_pay150, k0_pay156,
    k0_pay153, k0_pay159, k0_pay158, k0_pay157, k0_pay163, k0_pay160, k0_pay165, k0_pay164, k0_pay169, k0_pay166,
    k0_pay172, k0_pay170, k0_pay331, k0_pay328, k0_pay327, k0_pay325, k0_pay323, k0_pay324, k0_pay326, k0_pay335,
    k0_pay334, k0_pay332, k0_pay333, k0_pay339, k0_pay336, k0_pay343, k0_pay342, k0_pay340, k0_pay341, k0_pay347,
    k0_pay344, k0_pay350, k0_pay349, k0_pay348, k0_pay354, k0_pay351, k0_pay357, k0_pay355, k0_pay515, k0_pay513,
    k0_pay512, k0_pay510, k0_pay508, k0_pay509, k0_pay511, k0_pay518, k0_pay516, k0_pay522, k0_pay519, k0_pay526,
    k0_pay525, k0_pay523, k0_pay524, k0_pay530, k0_pay527, k0_pay534, k0_pay533, k0_pay531, k0_pay532, k0_pay538,
    k0_pay535, k0_pay542, k0_pay540, k0_pay539, k0_pay698, k0_pay696, k0_pay695, k0_pay692, k0_pay689, k0_pay690,
    k0_pay691, k0_pay693, k0_pay694, k0_pay701, k0_pay699, k0_pay704, k0_pay702, k0_pay707, k0_pay705, k0_pay711,
    k0_pay708, k0_pay715, k0_pay714, k0_pay712, k0_pay713, k0_pay719, k0_pay716, k0_pay724, k0_pay722, k0_pay720,
    k0_pay721, sl.r_62, sl.r_61, sl.r_66, sl.r_67, sl.r_70, sl.cst_653, sl.r_73, sl.r_145, sl.r_143, sl.r_144,
    sl.r_146, sl.r_150, sl.r_151, sl.r_154, sl.r_155, sl.r_158, sl.r_231, sl.r_229, sl.r_230, sl.r_232, sl.r_235,
    sl.r_239, sl.r_240, sl.r_243, sl.r_244, sl.r_247, sl.r_310, sl.r_307, sl.r_308, sl.cst_2883, sl.r_309, sl.r_311,
    sl.r_312, sl.r_315, sl.r_318, sl.r_322, sl.r_323, sl.r_326, sl.r_327]
  all_goals simp only [
    weight (c := c) (arg4 := arg4) (harg4 := harg4) H,
    logits (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (arg12 := arg12) (harg12 := harg12) (arg13 := arg13) (harg13 := harg13) (arg17 := arg17) (arg21 := arg21) (arg22 := arg22) H,
    logit_max (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (arg12 := arg12) (harg12 := harg12) (arg13 := arg13) (harg13 := harg13) (arg17 := arg17) (arg21 := arg21) (arg22 := arg22) H,
    Fin.reduceFinMk, Fin.zero_eta, Fin.mk_one, zero_add, ← EReal.coe_mul, ← EReal.coe_add, ← EReal.coe_sub, ← coe_sum,
    max_coe_zero]
  all_goals simp only [ofBits_bot, ml_fold, mx_fold, e_fold, e_fold', ← EReal.coe_sub, ← EReal.coe_add, esum_fold]

/-- The inverse of the sum of the exponential weights, for the four samples of a grid step. -/
theorem inv_sum (d : Fin 64) (r : Fin 512) :
    sl.r_77 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix2 d r)
      = ((1 / (T.J 0 r).esum d : ℝ) : EReal)
    ∧ sl.r_162 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix2 d r)
      = ((1 / (T.J 1 r).esum d : ℝ) : EReal)
    ∧ sl.r_249 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix2 d r)
      = ((1 / (T.J 2 r).esum d : ℝ) : EReal)
    ∧ sl.r_329 (F := Ideal) c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12 (ix2 d r)
      = ((1 / (T.J 3 r).esum d : ℝ) : EReal) := by
  refine ⟨?_, ?_, ?_, ?_⟩
  all_goals pointwise [
    sl.r_77, sl.r_162, sl.r_249, sl.r_329, k0_pay173, k0_pay170, k0_pay167, k0_pay164, k0_pay166, k0_pay161, k0_pay158,
    k0_pay160, k0_pay154, k0_pay151, k0_pay153, k0_pay146, k0_pay145, k0_pay144, k0_pay143, k0_pay142, k0_pay149,
    k0_pay150, k0_pay157, k0_pay358, k0_pay355, k0_pay352, k0_pay349, k0_pay351, k0_pay345, k0_pay342, k0_pay344,
    k0_pay337, k0_pay334, k0_pay336, k0_pay329, k0_pay328, k0_pay327, k0_pay325, k0_pay323, k0_pay324, k0_pay326,
    k0_pay332, k0_pay333, k0_pay340, k0_pay341, k0_pay348, k0_pay543, k0_pay540, k0_pay536, k0_pay533, k0_pay535,
    k0_pay528, k0_pay525, k0_pay527, k0_pay520, k0_pay519, k0_pay517, k0_pay513, k0_pay512, k0_pay516, k0_pay510,
    k0_pay508, k0_pay509, k0_pay511, k0_pay523, k0_pay524, k0_pay531, k0_pay532, k0_pay539, k0_pay725, k0_pay722,
    k0_pay717, k0_pay714, k0_pay716, k0_pay709, k0_pay708, k0_pay706, k0_pay702, k0_pay705, k0_pay700, k0_pay696,
    k0_pay695, k0_pay699, k0_pay692, k0_pay689, k0_pay690, k0_pay691, k0_pay693, k0_pay694, k0_pay712, k0_pay713,
    k0_pay720, k0_pay721, sl.r_74, sl.r_71, sl.r_68, sl.r_64, sl.r_62, sl.r_61, sl.r_66, sl.r_67, sl.r_70, sl.cst_653,
    sl.r_159, sl.r_156, sl.r_152, sl.r_148, sl.r_145, sl.r_143, sl.r_144, sl.r_146, sl.r_150, sl.r_151, sl.r_154,
    sl.r_155, sl.r_158, sl.r_245, sl.r_241, sl.r_237, sl.r_236, sl.r_231, sl.r_229, sl.r_230, sl.r_232, sl.r_239,
    sl.r_240, sl.r_243, sl.r_244, sl.r_247, sl.r_324, sl.r_320, sl.r_319, sl.r_316, sl.r_310, sl.r_307, sl.r_308,
    sl.cst_2883, sl.r_309, sl.r_311, sl.r_312, sl.r_322, sl.r_323, sl.r_326, sl.r_327]
  all_goals simp only [
    weight (c := c) (arg4 := arg4) (harg4 := harg4) H,
    logit_max (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (arg12 := arg12) (harg12 := harg12) (arg13 := arg13) (harg13 := harg13) (arg17 := arg17) (arg21 := arg21) (arg22 := arg22) H,
    logits (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (arg12 := arg12) (harg12 := harg12) (arg13 := arg13) (harg13 := harg13) (arg17 := arg17) (arg21 := arg21) (arg22 := arg22) H,
    Fin.reduceFinMk, Fin.zero_eta, Fin.mk_one, zero_add, ← EReal.coe_mul, ← EReal.coe_add, ← EReal.coe_sub, ← coe_sum,
    max_coe_zero]
  all_goals simp only [ofBits_bot, ml_fold, mx_fold, e_fold, e_fold', ← EReal.coe_sub, ← EReal.coe_add, esum_fold]
  all_goals exact one_div_coe _ (In.esum_pos _ d).ne'

end Cert.KVal
end
-- ==== Proof.BodyOut.lean ====
/- What the body stores in the four output blocks. -/
module

public import proofs.«01_k».proof.Proof.BodyAttn
public import proofs.«01_k».proof.Proof.Gen.KernelIdeal.Frame.RunA

@[expose] public section

set_option maxRecDepth 16384

noncomputable section

namespace Cert.KVal

open Idealize.ShloMosaic Idealize.ShloMosaic.TcCoe Cert.Model Cert.KernelIdeal Cert.KernelIdeal.Gen Cert.KernelIdeal.Gen.kernelRun0_A

variable {c : Dev nD}
variable {arg1 : Memref sig .tc .vmem S4x64x512 .f32} {harg1 : arg1.IsWhole}
variable {arg2 : Memref sig .tc .vmem S4x8x64x512 .f32} {harg2 : arg2.IsWhole}
variable {arg3 : Memref sig .tc .vmem S4x8x4x512 .f32} {harg3 : arg3.IsWhole}
variable {arg4 : Memref sig .tc .vmem S4x8x512 .f32} {harg4 : arg4.IsWhole}
variable {arg5 : Memref sig .tc .vmem S72x64 .f32} {harg5 : arg5.IsWhole}
variable {arg6 : Memref sig .tc .vmem S136x64 .f32} {harg6 : arg6.IsWhole}
variable {arg7 : Memref sig .tc .vmem S8x4 .f32} {harg7 : arg7.IsWhole}
variable {arg8 : Memref sig .tc .vmem S8x512 .f32} {harg8 : arg8.IsWhole}
variable {arg9 : Memref sig .tc .vmem S72x8 .f32} {harg9 : arg9.IsWhole}
variable {arg10 : Memref sig .tc .vmem S64x512 .f32} {harg10 : arg10.IsWhole}
variable {arg11 : Memref sig .tc .vmem S8x512 .f32} {harg11 : arg11.IsWhole}
variable {arg12 : Memref sig .tc .vmem S64x8 .f32} {harg12 : arg12.IsWhole}
variable {arg13 : Memref sig .tc .vmem S64x512 .f32} {harg13 : arg13.IsWhole}
variable {arg14 : Memref sig .tc .vmem S64x64 .f32} {harg14 : arg14.IsWhole}
variable {arg15 : Memref sig .tc .vmem S64x512 .f32} {harg15 : arg15.IsWhole}
variable {arg16 : Memref sig .tc .vmem S4x64x512 .f32} {harg16 : arg16.IsWhole}
variable {arg17 : Memref sig .tc .vmem S4x8x64x512 .f32} {harg17 : arg17.IsWhole}
variable {arg18 : Memref sig .tc .vmem S4x64x512 .f32} {harg18 : arg18.IsWhole}
variable {arg19 : Memref sig .tc .vmem S4x64x512 .f32} {harg19 : arg19.IsWhole}
variable {arg20 : Memref sig .tc .vmem S8x64x512 .f32} {harg20 : arg20.IsWhole}
variable {arg21 : Memref sig .tc .vmem S8x8x512 .f32} {harg21 : arg21.IsWhole}
variable {arg22 : Memref sig .tc .vmem S8x8x512 .f32} {harg22 : arg22.IsWhole}
variable {x0 : Vec Ideal S4x64x512 .f32}
variable {x1 : Vec Ideal S4x8x64x512 .f32}
variable {x2 : Vec Ideal S4x8x4x512 .f32}
variable {x3 : Vec Ideal S4x8x512 .f32}
variable {x4 : Vec Ideal S72x64 .f32}
variable {x5 : Vec Ideal S136x64 .f32}
variable {x6 : Vec Ideal S8x4 .f32}
variable {x7 : Vec Ideal S8x512 .f32}
variable {x8 : Vec Ideal S72x8 .f32}
variable {x9 : Vec Ideal S64x512 .f32}
variable {x10 : Vec Ideal S8x512 .f32}
variable {x11 : Vec Ideal S64x8 .f32}
variable {x12 : Vec Ideal S64x512 .f32}
variable {x13 : Vec Ideal S64x64 .f32}
variable {x14 : Vec Ideal S64x512 .f32}
variable {T : Tile} (H : T.Holds x0 x1 x2 x3 x4 x5 x6 x7 x8 x9 x10 x11 x12)
include H

/-- The deviations of the keys, for the four samples of a grid step. -/
theorem kstd_block {L : List (View.Piece (Elt Ideal) S4x64x512 .f32)}
    (hL : L = L17 c arg2 harg2 arg4 harg4 arg6 harg6 x1 x3 x5) (d : Fin 64) (r : Fin 512) :
    arg18.view.readCov L (Rect.unit (s := S4x64x512) ![0, 0, 0] S1x64x512.size inb_S4x64x512_S1x64x512_0_0_0).toLoadRect (ix3 0 d r)
      = (T.J 0 r).kstd d
    ∧ arg18.view.readCov L (Rect.unit (s := S4x64x512) ![1, 0, 0] S1x64x512.size inb_S4x64x512_S1x64x512_1_0_0).toLoadRect (ix3 0 d r)
      = (T.J 1 r).kstd d
    ∧ arg18.view.readCov L (Rect.unit (s := S4x64x512) ![2, 0, 0] S1x64x512.size inb_S4x64x512_S1x64x512_2_0_0).toLoadRect (ix3 0 d r)
      = (T.J 2 r).kstd d
    ∧ arg18.view.readCov L (Rect.unit (s := S4x64x512) ![3, 0, 0] S1x64x512.size inb_S4x64x512_S1x64x512_3_0_0).toLoadRect (ix3 0 d r)
      = (T.J 3 r).kstd d := by
  subst hL
  refine ⟨?_, ?_, ?_, ?_⟩
  all_goals (repeat refine load_older _ _ _ _ _ _ (by decide) ?_)
  all_goals refine load_newest _ _ _ _ _ ?_
  all_goals pointwise [
    k0_pay87, k0_pay86, k0_pay83, k0_pay81, k0_pay78, k0_pay77, k0_pay82, k0_pay15, k0_pay14, k0_pay13, k0_pay5,
    k0_pay6, k0_pay7, k0_pay8, k0_pay9, k0_pay10, k0_pay11, k0_pay12, k0_pay16, k0_pay17, k0_pay74, k0_pay68, k0_pay65,
    k0_pay73, k0_pay70, k0_pay69, k0_pay61, k0_pay55, k0_pay60, k0_pay57, k0_pay56, k0_pay47, k0_pay46, k0_pay43,
    k0_pay42, k0_pay39, k0_pay33, k0_pay30, k0_pay38, k0_pay35, k0_pay34, k0_pay26, k0_pay29, k0_pay51, k0_pay50,
    k0_pay64, k0_pay75, k0_pay62, k0_pay48, k0_pay40, k0_pay27, k0_pay85, k0_pay270, k0_pay269, k0_pay266, k0_pay267,
    k0_pay265, k0_pay262, k0_pay261, k0_pay196, k0_pay194, k0_pay186, k0_pay187, k0_pay188, k0_pay189, k0_pay190,
    k0_pay191, k0_pay192, k0_pay193, k0_pay195, k0_pay197, k0_pay198, k0_pay257, k0_pay251, k0_pay256, k0_pay253,
    k0_pay252, k0_pay243, k0_pay237, k0_pay242, k0_pay239, k0_pay238, k0_pay230, k0_pay229, k0_pay226, k0_pay225,
    k0_pay221, k0_pay215, k0_pay220, k0_pay217, k0_pay216, k0_pay207, k0_pay211, k0_pay210, k0_pay224, k0_pay234,
    k0_pay233, k0_pay247, k0_pay246, k0_pay258, k0_pay244, k0_pay231, k0_pay222, k0_pay208, k0_pay260, k0_pay454,
    k0_pay451, k0_pay452, k0_pay450, k0_pay447, k0_pay446, k0_pay382, k0_pay381, k0_pay380, k0_pay372, k0_pay373,
    k0_pay374, k0_pay375, k0_pay376, k0_pay377, k0_pay378, k0_pay379, k0_pay384, k0_pay383, k0_pay385, k0_pay442,
    k0_pay436, k0_pay441, k0_pay438, k0_pay437, k0_pay429, k0_pay428, k0_pay425, k0_pay424, k0_pay423, k0_pay415,
    k0_pay412, k0_pay411, k0_pay422, k0_pay419, k0_pay418, k0_pay407, k0_pay401, k0_pay406, k0_pay403, k0_pay402,
    k0_pay394, k0_pay398, k0_pay397, k0_pay410, k0_pay433, k0_pay432, k0_pay443, k0_pay430, k0_pay416, k0_pay408,
    k0_pay395, k0_pay445, k0_pay636, k0_pay634, k0_pay635, k0_pay633, k0_pay630, k0_pay565, k0_pay564, k0_pay563,
    k0_pay555, k0_pay556, k0_pay557, k0_pay558, k0_pay559, k0_pay560, k0_pay561, k0_pay562, k0_pay566, k0_pay568,
    k0_pay567, k0_pay626, k0_pay620, k0_pay625, k0_pay622, k0_pay621, k0_pay612, k0_pay611, k0_pay608, k0_pay607,
    k0_pay604, k0_pay598, k0_pay595, k0_pay603, k0_pay600, k0_pay599, k0_pay591, k0_pay585, k0_pay590, k0_pay587,
    k0_pay586, k0_pay577, k0_pay581, k0_pay580, k0_pay594, k0_pay616, k0_pay615, k0_pay627, k0_pay613, k0_pay605,
    k0_pay592, k0_pay578, k0_pay629, sl.r_38, sl.r_10, sl.r_9, sl.r_11, sl.r_12, sl.r_34, sl.r_30, sl.r_25, sl.r_22,
    sl.r_21, sl.r_28, sl.r_33, sl.r_35, sl.r_31, sl.r_26, sl.r_23, sl.r_40, sl.r_128, sl.r_92, sl.r_90, sl.r_91,
    sl.cst_796, sl.r_93, sl.r_94, sl.r_121, sl.r_115, sl.r_110, sl.r_106, sl.r_104, sl.r_109, sl.r_113, sl.r_119,
    sl.r_122, sl.r_116, sl.r_111, sl.r_107, sl.r_124, sl.r_176, sl.r_177, sl.r_178, sl.r_205, sl.r_199, sl.r_198,
    sl.r_190, sl.r_188, sl.r_193, sl.r_203, sl.r_206, sl.r_200, sl.r_194, sl.r_191, sl.r_196, sl.r_197, sl.r_208,
    sl.r_261, sl.r_262, sl.r_264, sl.r_263, sl.r_287, sl.r_282, sl.r_279, sl.r_275, sl.r_273, sl.r_278, sl.r_285,
    sl.r_288, sl.r_283, sl.r_280, sl.r_276, sl.r_290]
  all_goals simp only [
    ld1, ld3, ldw, H.k, H.μ, H.wk, H.wak, weight (c := c) (arg4 := arg4) (harg4 := harg4) H, Fin.reduceFinMk,
    Fin.zero_eta, Fin.mk_one, zero_add, ← EReal.coe_mul, ← EReal.coe_add, ← EReal.coe_sub, ← coe_sum, max_coe_zero]
  all_goals simp only [kf_fold, cnt_fold, ofBits_eight, c_fold, abs_coe, sub_coe_one, max_coe_one,
    fun s : Fin 4 => one_div_coe (T.J s r).c (T.J s r).c_pos.ne', fun s : Fin 4 => one_div_coe (max ((T.J s r).c - 1) 1) (T.J s r).cm1_pos.ne',
    ← EReal.coe_mul, ← EReal.coe_add, ← EReal.coe_sub, var_fold, mabs_fold, max_coe_zero, std_fold, kstd_fold, nkstd_fold]

/-- The normalised deviations of the keys, for the four samples of a grid step. -/
theorem nkstd_block {L : List (View.Piece (Elt Ideal) S4x64x512 .f32)}
    (hL : L = L18 c arg2 harg2 arg4 harg4 arg6 harg6 x1 x3 x5) (d : Fin 64) (r : Fin 512) :
    arg19.view.readCov L (Rect.unit (s := S4x64x512) ![0, 0, 0] S1x64x512.size inb_S4x64x512_S1x64x512_0_0_0).toLoadRect (ix3 0 d r)
      = (T.J 0 r).nkstd d
    ∧ arg19.view.readCov L (Rect.unit (s := S4x64x512) ![1, 0, 0] S1x64x512.size inb_S4x64x512_S1x64x512_1_0_0).toLoadRect (ix3 0 d r)
      = (T.J 1 r).nkstd d
    ∧ arg19.view.readCov L (Rect.unit (s := S4x64x512) ![2, 0, 0] S1x64x512.size inb_S4x64x512_S1x64x512_2_0_0).toLoadRect (ix3 0 d r)
      = (T.J 2 r).nkstd d
    ∧ arg19.view.readCov L (Rect.unit (s := S4x64x512) ![3, 0, 0] S1x64x512.size inb_S4x64x512_S1x64x512_3_0_0).toLoadRect (ix3 0 d r)
      = (T.J 3 r).nkstd d := by
  subst hL
  refine ⟨?_, ?_, ?_, ?_⟩
  all_goals (repeat refine load_older _ _ _ _ _ _ (by decide) ?_)
  all_goals refine load_newest _ _ _ _ _ ?_
  all_goals pointwise [
    k0_pay88, k0_pay82, k0_pay15, k0_pay14, k0_pay13, k0_pay5, k0_pay6, k0_pay7, k0_pay8, k0_pay9, k0_pay10, k0_pay11,
    k0_pay12, k0_pay83, k0_pay81, k0_pay78, k0_pay77, k0_pay16, k0_pay17, k0_pay74, k0_pay68, k0_pay65, k0_pay73,
    k0_pay70, k0_pay69, k0_pay61, k0_pay55, k0_pay60, k0_pay57, k0_pay56, k0_pay47, k0_pay46, k0_pay43, k0_pay42,
    k0_pay39, k0_pay33, k0_pay30, k0_pay38, k0_pay35, k0_pay34, k0_pay26, k0_pay29, k0_pay51, k0_pay50, k0_pay64,
    k0_pay75, k0_pay62, k0_pay48, k0_pay40, k0_pay27, k0_pay84, k0_pay76, k0_pay63, k0_pay49, k0_pay41, k0_pay28,
    k0_pay271, k0_pay266, k0_pay196, k0_pay194, k0_pay186, k0_pay187, k0_pay188, k0_pay189, k0_pay190, k0_pay191,
    k0_pay192, k0_pay193, k0_pay195, k0_pay267, k0_pay265, k0_pay262, k0_pay261, k0_pay197, k0_pay198, k0_pay257,
    k0_pay251, k0_pay256, k0_pay253, k0_pay252, k0_pay243, k0_pay237, k0_pay242, k0_pay239, k0_pay238, k0_pay230,
    k0_pay229, k0_pay226, k0_pay225, k0_pay221, k0_pay215, k0_pay220, k0_pay217, k0_pay216, k0_pay207, k0_pay211,
    k0_pay210, k0_pay224, k0_pay234, k0_pay233, k0_pay247, k0_pay246, k0_pay258, k0_pay244, k0_pay231, k0_pay222,
    k0_pay208, k0_pay260, k0_pay268, k0_pay259, k0_pay245, k0_pay232, k0_pay223, k0_pay209, k0_pay455, k0_pay451,
    k0_pay382, k0_pay381, k0_pay380, k0_pay372, k0_pay373, k0_pay374, k0_pay375, k0_pay376, k0_pay377, k0_pay378,
    k0_pay379, k0_pay452, k0_pay450, k0_pay447, k0_pay446, k0_pay384, k0_pay383, k0_pay385, k0_pay442, k0_pay436,
    k0_pay441, k0_pay438, k0_pay437, k0_pay429, k0_pay428, k0_pay425, k0_pay424, k0_pay423, k0_pay415, k0_pay412,
    k0_pay411, k0_pay422, k0_pay419, k0_pay418, k0_pay407, k0_pay401, k0_pay406, k0_pay403, k0_pay402, k0_pay394,
    k0_pay398, k0_pay397, k0_pay410, k0_pay433, k0_pay432, k0_pay443, k0_pay430, k0_pay416, k0_pay408, k0_pay395,
    k0_pay445, k0_pay453, k0_pay444, k0_pay431, k0_pay417, k0_pay409, k0_pay396, k0_pay638, k0_pay634, k0_pay565,
    k0_pay564, k0_pay563, k0_pay555, k0_pay556, k0_pay557, k0_pay558, k0_pay559, k0_pay560, k0_pay561, k0_pay562,
    k0_pay637, k0_pay633, k0_pay630, k0_pay635, k0_pay566, k0_pay568, k0_pay567, k0_pay626, k0_pay620, k0_pay625,
    k0_pay622, k0_pay621, k0_pay612, k0_pay611, k0_pay608, k0_pay607, k0_pay604, k0_pay598, k0_pay595, k0_pay603,
    k0_pay600, k0_pay599, k0_pay591, k0_pay585, k0_pay590, k0_pay587, k0_pay586, k0_pay577, k0_pay581, k0_pay580,
    k0_pay594, k0_pay616, k0_pay615, k0_pay627, k0_pay613, k0_pay605, k0_pay592, k0_pay578, k0_pay628, k0_pay614,
    k0_pay606, k0_pay593, k0_pay579, k0_pay629, sl.r_37, sl.r_10, sl.r_9, sl.r_38, sl.r_11, sl.r_12, sl.r_34, sl.r_30,
    sl.r_25, sl.r_22, sl.r_21, sl.r_28, sl.r_33, sl.r_35, sl.r_31, sl.r_26, sl.r_23, sl.r_39, sl.r_36, sl.r_32,
    sl.r_27, sl.r_24, sl.r_125, sl.r_92, sl.r_90, sl.r_91, sl.cst_796, sl.r_126, sl.r_93, sl.r_94, sl.r_121, sl.r_115,
    sl.r_110, sl.r_106, sl.r_104, sl.r_109, sl.r_113, sl.r_119, sl.r_122, sl.r_116, sl.r_111, sl.r_107, sl.r_124,
    sl.r_127, sl.r_123, sl.r_117, sl.r_112, sl.r_108, sl.r_209, sl.r_176, sl.r_210, sl.r_177, sl.r_178, sl.r_205,
    sl.r_199, sl.r_198, sl.r_190, sl.r_188, sl.r_193, sl.r_203, sl.r_206, sl.r_200, sl.r_194, sl.r_191, sl.r_196,
    sl.r_197, sl.r_208, sl.r_211, sl.r_207, sl.r_201, sl.r_195, sl.r_192, sl.r_291, sl.r_261, sl.r_292, sl.r_262,
    sl.r_264, sl.r_263, sl.r_287, sl.r_282, sl.r_279, sl.r_275, sl.r_273, sl.r_278, sl.r_285, sl.r_288, sl.r_283,
    sl.r_280, sl.r_276, sl.r_289, sl.r_284, sl.r_281, sl.r_277, sl.r_290]
  all_goals simp only [
    ld1, ld3, ldw, H.k, H.μ, H.wk, H.wak, weight (c := c) (arg4 := arg4) (harg4 := harg4) H, Fin.reduceFinMk,
    Fin.zero_eta, Fin.mk_one, zero_add, ← EReal.coe_mul, ← EReal.coe_add, ← EReal.coe_sub, ← coe_sum, max_coe_zero]
  all_goals simp only [kf_fold, cnt_fold, ofBits_eight, c_fold, abs_coe, sub_coe_one, max_coe_one,
    fun s : Fin 4 => one_div_coe (T.J s r).c (T.J s r).c_pos.ne', fun s : Fin 4 => one_div_coe (max ((T.J s r).c - 1) 1) (T.J s r).cm1_pos.ne',
    ← EReal.coe_mul, ← EReal.coe_add, ← EReal.coe_sub, var_fold, mabs_fold, max_coe_zero, std_fold, kstd_fold, nkstd_fold]

/-- The output, for the four samples of a grid step. -/
theorem x_block {L : List (View.Piece (Elt Ideal) S4x64x512 .f32)}
    (hL : L = L15 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg20 arg21 arg22 x0 x1 x2 x3 x4 x5 x6 x7 x8 x9 x10 x11 x12 x13 x14) (d : Fin 64) (r : Fin 512) :
    arg16.view.readCov L (Rect.unit (s := S4x64x512) ![0, 0, 0] S1x64x512.size inb_S4x64x512_S1x64x512_0_0_0).toLoadRect (ix3 0 d r)
      = T.x x5 x13 x14 0 r d
    ∧ arg16.view.readCov L (Rect.unit (s := S4x64x512) ![1, 0, 0] S1x64x512.size inb_S4x64x512_S1x64x512_1_0_0).toLoadRect (ix3 0 d r)
      = T.x x5 x13 x14 1 r d
    ∧ arg16.view.readCov L (Rect.unit (s := S4x64x512) ![2, 0, 0] S1x64x512.size inb_S4x64x512_S1x64x512_2_0_0).toLoadRect (ix3 0 d r)
      = T.x x5 x13 x14 2 r d
    ∧ arg16.view.readCov L (Rect.unit (s := S4x64x512) ![3, 0, 0] S1x64x512.size inb_S4x64x512_S1x64x512_3_0_0).toLoadRect (ix3 0 d r)
      = T.x x5 x13 x14 3 r d := by
  subst hL
  refine ⟨?_, ?_, ?_, ?_⟩
  all_goals (repeat refine load_older _ _ _ _ _ _ (by decide) ?_)
  all_goals refine load_newest _ _ _ _ _ ?_
  all_goals pointwise [
    k0_pay184, k0_pay171, k0_pay170, k0_pay168, k0_pay164, k0_pay166, k0_pay162, k0_pay158, k0_pay160, k0_pay155,
    k0_pay151, k0_pay153, k0_pay147, k0_pay145, k0_pay144, k0_pay143, k0_pay142, k0_pay149, k0_pay150, k0_pay157,
    k0_pay369, k0_pay356, k0_pay355, k0_pay353, k0_pay349, k0_pay351, k0_pay346, k0_pay342, k0_pay344, k0_pay338,
    k0_pay334, k0_pay336, k0_pay330, k0_pay328, k0_pay327, k0_pay325, k0_pay323, k0_pay324, k0_pay326, k0_pay332,
    k0_pay333, k0_pay340, k0_pay341, k0_pay348, k0_pay552, k0_pay541, k0_pay540, k0_pay537, k0_pay533, k0_pay535,
    k0_pay529, k0_pay525, k0_pay527, k0_pay521, k0_pay519, k0_pay514, k0_pay513, k0_pay512, k0_pay510, k0_pay508,
    k0_pay509, k0_pay511, k0_pay516, k0_pay523, k0_pay524, k0_pay531, k0_pay532, k0_pay539, k0_pay3, k0_pay723,
    k0_pay722, k0_pay718, k0_pay714, k0_pay716, k0_pay710, k0_pay708, k0_pay703, k0_pay702, k0_pay697, k0_pay696,
    k0_pay695, k0_pay692, k0_pay689, k0_pay690, k0_pay691, k0_pay693, k0_pay694, k0_pay699, k0_pay705, k0_pay712,
    k0_pay713, k0_pay720, k0_pay721, sl.r_76, sl.r_75, sl.r_72, sl.r_69, sl.r_65, sl.r_62, sl.r_61, sl.r_66, sl.r_67,
    sl.r_70, sl.cst_653, sl.r_161, sl.r_160, sl.r_157, sl.r_153, sl.r_149, sl.r_145, sl.r_143, sl.r_144, sl.r_146,
    sl.r_150, sl.r_151, sl.r_154, sl.r_155, sl.r_158, sl.r_248, sl.r_246, sl.r_242, sl.r_238, sl.r_234, sl.r_231,
    sl.r_229, sl.r_230, sl.r_232, sl.r_235, sl.r_239, sl.r_240, sl.r_243, sl.r_244, sl.r_247, sl.r_328, sl.r_325,
    sl.r_321, sl.r_317, sl.r_314, sl.r_310, sl.r_307, sl.r_308, sl.cst_2883, sl.r_309, sl.r_311, sl.r_312, sl.r_315,
    sl.r_318, sl.r_322, sl.r_323, sl.r_326, sl.r_327]
  all_goals simp only [
    ldw, weight (c := c) (arg4 := arg4) (harg4 := harg4) H,
    logit_max (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (arg12 := arg12) (harg12 := harg12) (arg13 := arg13) (harg13 := harg13) (arg17 := arg17) (arg21 := arg21) (arg22 := arg22) H,
    logits (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (arg12 := arg12) (harg12 := harg12) (arg13 := arg13) (harg13 := harg13) (arg17 := arg17) (arg21 := arg21) (arg22 := arg22) H,
    value_pos (c := c) (arg2 := arg2) (harg2 := harg2) (arg3 := arg3) (harg3 := harg3) (arg6 := arg6) (harg6 := harg6) (arg7 := arg7) (harg7 := harg7) (arg8 := arg8) (harg8 := harg8) (arg9 := arg9) (harg9 := harg9) (arg10 := arg10) (harg10 := harg10) (arg20 := arg20) (arg22 := arg22) H,
    inv_sum (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (arg12 := arg12) (harg12 := harg12) (arg13 := arg13) (harg13 := harg13) (arg17 := arg17) (arg21 := arg21) (arg22 := arg22) H,
    Fin.reduceFinMk, Fin.zero_eta, Fin.mk_one, zero_add, ← EReal.coe_mul, ← EReal.coe_add, ← EReal.coe_sub, ← coe_sum,
    max_coe_zero]
  all_goals unfold Tile.x
  all_goals simp only [ofBits_bot, ml_fold, mx_fold, e_fold, e_fold', ← EReal.coe_sub, ← EReal.coe_add, esum_fold, one_div_coe _ (In.esum_pos _ _).ne', Fin.sum_univ_eight]

/-- The attention weights, for the four samples of a grid step. -/
theorem attn_block {L : List (View.Piece (Elt Ideal) S4x8x64x512 .f32)}
    (hL : L = L16 c arg1 harg1 arg2 harg2 arg3 harg3 arg4 harg4 arg5 harg5 arg6 harg6 arg7 harg7 arg8 harg8 arg9 harg9 arg11 harg11 arg12 harg12 arg13 harg13 arg17 arg21 arg22 x0 x1 x2 x3 x4 x5 x6 x7 x8 x10 x11 x12) (d : Fin 64) (r : Fin 512) :
    arg17.view.readCov L (Rect.unit (s := S4x8x64x512) ![0, 0, 0, 0] S1x1x64x512.size inb_S4x8x64x512_S1x1x64x512_0_0_0_0).toLoadRect (ix4 0 0 d r)
      = (((T.J 0 r).attn 0 d : ℝ) : EReal)
    ∧ arg17.view.readCov L (Rect.unit (s := S4x8x64x512) ![0, 1, 0, 0] S1x1x64x512.size inb_S4x8x64x512_S1x1x64x512_0_1_0_0).toLoadRect (ix4 0 0 d r)
      = (((T.J 0 r).attn 1 d : ℝ) : EReal)
    ∧ arg17.view.readCov L (Rect.unit (s := S4x8x64x512) ![0, 2, 0, 0] S1x1x64x512.size inb_S4x8x64x512_S1x1x64x512_0_2_0_0).toLoadRect (ix4 0 0 d r)
      = (((T.J 0 r).attn 2 d : ℝ) : EReal)
    ∧ arg17.view.readCov L (Rect.unit (s := S4x8x64x512) ![0, 3, 0, 0] S1x1x64x512.size inb_S4x8x64x512_S1x1x64x512_0_3_0_0).toLoadRect (ix4 0 0 d r)
      = (((T.J 0 r).attn 3 d : ℝ) : EReal)
    ∧ arg17.view.readCov L (Rect.unit (s := S4x8x64x512) ![0, 4, 0, 0] S1x1x64x512.size inb_S4x8x64x512_S1x1x64x512_0_4_0_0).toLoadRect (ix4 0 0 d r)
      = (((T.J 0 r).attn 4 d : ℝ) : EReal)
    ∧ arg17.view.readCov L (Rect.unit (s := S4x8x64x512) ![0, 5, 0, 0] S1x1x64x512.size inb_S4x8x64x512_S1x1x64x512_0_5_0_0).toLoadRect (ix4 0 0 d r)
      = (((T.J 0 r).attn 5 d : ℝ) : EReal)
    ∧ arg17.view.readCov L (Rect.unit (s := S4x8x64x512) ![0, 6, 0, 0] S1x1x64x512.size inb_S4x8x64x512_S1x1x64x512_0_6_0_0).toLoadRect (ix4 0 0 d r)
      = (((T.J 0 r).attn 6 d : ℝ) : EReal)
    ∧ arg17.view.readCov L (Rect.unit (s := S4x8x64x512) ![0, 7, 0, 0] S1x1x64x512.size inb_S4x8x64x512_S1x1x64x512_0_7_0_0).toLoadRect (ix4 0 0 d r)
      = (((T.J 0 r).attn 7 d : ℝ) : EReal)
    ∧ arg17.view.readCov L (Rect.unit (s := S4x8x64x512) ![1, 0, 0, 0] S1x1x64x512.size inb_S4x8x64x512_S1x1x64x512_1_0_0_0).toLoadRect (ix4 0 0 d r)
      = (((T.J 1 r).attn 0 d : ℝ) : EReal)
    ∧ arg17.view.readCov L (Rect.unit (s := S4x8x64x512) ![1, 1, 0, 0] S1x1x64x512.size inb_S4x8x64x512_S1x1x64x512_1_1_0_0).toLoadRect (ix4 0 0 d r)
      = (((T.J 1 r).attn 1 d : ℝ) : EReal)
    ∧ arg17.view.readCov L (Rect.unit (s := S4x8x64x512) ![1, 2, 0, 0] S1x1x64x512.size inb_S4x8x64x512_S1x1x64x512_1_2_0_0).toLoadRect (ix4 0 0 d r)
      = (((T.J 1 r).attn 2 d : ℝ) : EReal)
    ∧ arg17.view.readCov L (Rect.unit (s := S4x8x64x512) ![1, 3, 0, 0] S1x1x64x512.size inb_S4x8x64x512_S1x1x64x512_1_3_0_0).toLoadRect (ix4 0 0 d r)
      = (((T.J 1 r).attn 3 d : ℝ) : EReal)
    ∧ arg17.view.readCov L (Rect.unit (s := S4x8x64x512) ![1, 4, 0, 0] S1x1x64x512.size inb_S4x8x64x512_S1x1x64x512_1_4_0_0).toLoadRect (ix4 0 0 d r)
      = (((T.J 1 r).attn 4 d : ℝ) : EReal)
    ∧ arg17.view.readCov L (Rect.unit (s := S4x8x64x512) ![1, 5, 0, 0] S1x1x64x512.size inb_S4x8x64x512_S1x1x64x512_1_5_0_0).toLoadRect (ix4 0 0 d r)
      = (((T.J 1 r).attn 5 d : ℝ) : EReal)
    ∧ arg17.view.readCov L (Rect.unit (s := S4x8x64x512) ![1, 6, 0, 0] S1x1x64x512.size inb_S4x8x64x512_S1x1x64x512_1_6_0_0).toLoadRect (ix4 0 0 d r)
      = (((T.J 1 r).attn 6 d : ℝ) : EReal)
    ∧ arg17.view.readCov L (Rect.unit (s := S4x8x64x512) ![1, 7, 0, 0] S1x1x64x512.size inb_S4x8x64x512_S1x1x64x512_1_7_0_0).toLoadRect (ix4 0 0 d r)
      = (((T.J 1 r).attn 7 d : ℝ) : EReal)
    ∧ arg17.view.readCov L (Rect.unit (s := S4x8x64x512) ![2, 0, 0, 0] S1x1x64x512.size inb_S4x8x64x512_S1x1x64x512_2_0_0_0).toLoadRect (ix4 0 0 d r)
      = (((T.J 2 r).attn 0 d : ℝ) : EReal)
    ∧ arg17.view.readCov L (Rect.unit (s := S4x8x64x512) ![2, 1, 0, 0] S1x1x64x512.size inb_S4x8x64x512_S1x1x64x512_2_1_0_0).toLoadRect (ix4 0 0 d r)
      = (((T.J 2 r).attn 1 d : ℝ) : EReal)
    ∧ arg17.view.readCov L (Rect.unit (s := S4x8x64x512) ![2, 2, 0, 0] S1x1x64x512.size inb_S4x8x64x512_S1x1x64x512_2_2_0_0).toLoadRect (ix4 0 0 d r)
      = (((T.J 2 r).attn 2 d : ℝ) : EReal)
    ∧ arg17.view.readCov L (Rect.unit (s := S4x8x64x512) ![2, 3, 0, 0] S1x1x64x512.size inb_S4x8x64x512_S1x1x64x512_2_3_0_0).toLoadRect (ix4 0 0 d r)
      = (((T.J 2 r).attn 3 d : ℝ) : EReal)
    ∧ arg17.view.readCov L (Rect.unit (s := S4x8x64x512) ![2, 4, 0, 0] S1x1x64x512.size inb_S4x8x64x512_S1x1x64x512_2_4_0_0).toLoadRect (ix4 0 0 d r)
      = (((T.J 2 r).attn 4 d : ℝ) : EReal)
    ∧ arg17.view.readCov L (Rect.unit (s := S4x8x64x512) ![2, 5, 0, 0] S1x1x64x512.size inb_S4x8x64x512_S1x1x64x512_2_5_0_0).toLoadRect (ix4 0 0 d r)
      = (((T.J 2 r).attn 5 d : ℝ) : EReal)
    ∧ arg17.view.readCov L (Rect.unit (s := S4x8x64x512) ![2, 6, 0, 0] S1x1x64x512.size inb_S4x8x64x512_S1x1x64x512_2_6_0_0).toLoadRect (ix4 0 0 d r)
      = (((T.J 2 r).attn 6 d : ℝ) : EReal)
    ∧ arg17.view.readCov L (Rect.unit (s := S4x8x64x512) ![2, 7, 0, 0] S1x1x64x512.size inb_S4x8x64x512_S1x1x64x512_2_7_0_0).toLoadRect (ix4 0 0 d r)
      = (((T.J 2 r).attn 7 d : ℝ) : EReal)
    ∧ arg17.view.readCov L (Rect.unit (s := S4x8x64x512) ![3, 0, 0, 0] S1x1x64x512.size inb_S4x8x64x512_S1x1x64x512_3_0_0_0).toLoadRect (ix4 0 0 d r)
      = (((T.J 3 r).attn 0 d : ℝ) : EReal)
    ∧ arg17.view.readCov L (Rect.unit (s := S4x8x64x512) ![3, 1, 0, 0] S1x1x64x512.size inb_S4x8x64x512_S1x1x64x512_3_1_0_0).toLoadRect (ix4 0 0 d r)
      = (((T.J 3 r).attn 1 d : ℝ) : EReal)
    ∧ arg17.view.readCov L (Rect.unit (s := S4x8x64x512) ![3, 2, 0, 0] S1x1x64x512.size inb_S4x8x64x512_S1x1x64x512_3_2_0_0).toLoadRect (ix4 0 0 d r)
      = (((T.J 3 r).attn 2 d : ℝ) : EReal)
    ∧ arg17.view.readCov L (Rect.unit (s := S4x8x64x512) ![3, 3, 0, 0] S1x1x64x512.size inb_S4x8x64x512_S1x1x64x512_3_3_0_0).toLoadRect (ix4 0 0 d r)
      = (((T.J 3 r).attn 3 d : ℝ) : EReal)
    ∧ arg17.view.readCov L (Rect.unit (s := S4x8x64x512) ![3, 4, 0, 0] S1x1x64x512.size inb_S4x8x64x512_S1x1x64x512_3_4_0_0).toLoadRect (ix4 0 0 d r)
      = (((T.J 3 r).attn 4 d : ℝ) : EReal)
    ∧ arg17.view.readCov L (Rect.unit (s := S4x8x64x512) ![3, 5, 0, 0] S1x1x64x512.size inb_S4x8x64x512_S1x1x64x512_3_5_0_0).toLoadRect (ix4 0 0 d r)
      = (((T.J 3 r).attn 5 d : ℝ) : EReal)
    ∧ arg17.view.readCov L (Rect.unit (s := S4x8x64x512) ![3, 6, 0, 0] S1x1x64x512.size inb_S4x8x64x512_S1x1x64x512_3_6_0_0).toLoadRect (ix4 0 0 d r)
      = (((T.J 3 r).attn 6 d : ℝ) : EReal)
    ∧ arg17.view.readCov L (Rect.unit (s := S4x8x64x512) ![3, 7, 0, 0] S1x1x64x512.size inb_S4x8x64x512_S1x1x64x512_3_7_0_0).toLoadRect (ix4 0 0 d r)
      = (((T.J 3 r).attn 7 d : ℝ) : EReal) := by
  subst hL
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (repeat refine load_older _ _ _ _ _ _ (by decide) ?_)
  all_goals refine load_newest _ _ _ _ _ ?_
  all_goals pointwise [
    k0_pay174, k0_pay173, k0_pay170, k0_pay167, k0_pay164, k0_pay166, k0_pay161, k0_pay158, k0_pay160, k0_pay154,
    k0_pay151, k0_pay153, k0_pay146, k0_pay145, k0_pay144, k0_pay143, k0_pay142, k0_pay149, k0_pay150, k0_pay157,
    k0_pay176, k0_pay175, k0_pay177, k0_pay178, k0_pay179, k0_pay181, k0_pay180, k0_pay182, k0_pay183, k0_pay359,
    k0_pay358, k0_pay355, k0_pay352, k0_pay349, k0_pay351, k0_pay345, k0_pay342, k0_pay344, k0_pay337, k0_pay334,
    k0_pay336, k0_pay329, k0_pay328, k0_pay327, k0_pay325, k0_pay323, k0_pay324, k0_pay326, k0_pay332, k0_pay333,
    k0_pay340, k0_pay341, k0_pay348, k0_pay361, k0_pay360, k0_pay362, k0_pay363, k0_pay364, k0_pay366, k0_pay365,
    k0_pay367, k0_pay368, k0_pay544, k0_pay543, k0_pay540, k0_pay536, k0_pay533, k0_pay535, k0_pay528, k0_pay525,
    k0_pay527, k0_pay520, k0_pay519, k0_pay517, k0_pay513, k0_pay512, k0_pay516, k0_pay510, k0_pay508, k0_pay509,
    k0_pay511, k0_pay523, k0_pay524, k0_pay531, k0_pay532, k0_pay539, k0_pay545, k0_pay546, k0_pay547, k0_pay548,
    k0_pay549, k0_pay550, k0_pay551, k0_pay726, k0_pay725, k0_pay722, k0_pay717, k0_pay714, k0_pay716, k0_pay709,
    k0_pay708, k0_pay706, k0_pay702, k0_pay705, k0_pay700, k0_pay696, k0_pay695, k0_pay699, k0_pay692, k0_pay689,
    k0_pay690, k0_pay691, k0_pay693, k0_pay694, k0_pay712, k0_pay713, k0_pay720, k0_pay721, k0_pay727, k0_pay728,
    k0_pay729, k0_pay730, k0_pay731, k0_pay1, k0_pay2, sl.r_74, sl.r_71, sl.r_68, sl.r_64, sl.r_62, sl.r_61, sl.r_66,
    sl.r_67, sl.r_70, sl.cst_653, sl.r_78, sl.r_79, sl.r_159, sl.r_156, sl.r_152, sl.r_148, sl.r_145, sl.r_143,
    sl.r_144, sl.r_146, sl.r_150, sl.r_151, sl.r_154, sl.r_155, sl.r_158, sl.r_163, sl.r_164, sl.r_245, sl.r_241,
    sl.r_237, sl.r_236, sl.r_231, sl.r_229, sl.r_230, sl.r_232, sl.r_239, sl.r_240, sl.r_243, sl.r_244, sl.r_247,
    sl.r_324, sl.r_320, sl.r_319, sl.r_316, sl.r_310, sl.r_307, sl.r_308, sl.cst_2883, sl.r_309, sl.r_311, sl.r_312,
    sl.r_322, sl.r_323, sl.r_326, sl.r_327]
  all_goals simp only [
    weight (c := c) (arg4 := arg4) (harg4 := harg4) H,
    logit_max (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (arg12 := arg12) (harg12 := harg12) (arg13 := arg13) (harg13 := harg13) (arg17 := arg17) (arg21 := arg21) (arg22 := arg22) H,
    logits (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (arg12 := arg12) (harg12 := harg12) (arg13 := arg13) (harg13 := harg13) (arg17 := arg17) (arg21 := arg21) (arg22 := arg22) H,
    expo (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (arg12 := arg12) (harg12 := harg12) (arg13 := arg13) (harg13 := harg13) (arg17 := arg17) (arg21 := arg21) (arg22 := arg22) H,
    inv_sum (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg11 := arg11) (harg11 := harg11) (arg12 := arg12) (harg12 := harg12) (arg13 := arg13) (harg13 := harg13) (arg17 := arg17) (arg21 := arg21) (arg22 := arg22) H,
    Fin.reduceFinMk, Fin.zero_eta, Fin.mk_one, zero_add, ← EReal.coe_mul, ← EReal.coe_add, ← EReal.coe_sub, ← coe_sum,
    max_coe_zero]
  all_goals simp only [ofBits_bot, ml_fold, mx_fold, e_fold, e_fold', ← EReal.coe_sub, ← EReal.coe_add, esum_fold, fun s : Fin 4 => one_div_coe ((T.J s r).esum d) ((T.J s r).esum_pos d).ne', ← EReal.coe_mul, attn_fold]

end Cert.KVal
end
-- ==== Proof.Outs.lean ====
/- What a grid step leaves in the four output blocks, read at an index. -/
module

public import proofs.«01_k».proof.Proof.BodyOut
public import proofs.«01_k».proof.Proof.Gen.KernelIdeal.Frame

@[expose] public section

set_option maxRecDepth 16384

noncomputable section

namespace Cert.KVal

open Idealize.ShloMosaic Idealize.ShloMosaic.TcCoe Cert.Model Cert.KernelIdeal Cert.KernelIdeal.Gen

variable {c : Dev nD} (i : grid0.Coords)
variable {arg1 : Memref sig .tc .vmem S4x64x512 .f32} {harg1 : arg1.IsWhole}
variable {arg2 : Memref sig .tc .vmem S4x8x64x512 .f32} {harg2 : arg2.IsWhole}
variable {arg3 : Memref sig .tc .vmem S4x8x4x512 .f32} {harg3 : arg3.IsWhole}
variable {arg4 : Memref sig .tc .vmem S4x8x512 .f32} {harg4 : arg4.IsWhole}
variable {arg5 : Memref sig .tc .vmem S72x64 .f32} {harg5 : arg5.IsWhole}
variable {arg6 : Memref sig .tc .vmem S136x64 .f32} {harg6 : arg6.IsWhole}
variable {arg7 : Memref sig .tc .vmem S8x4 .f32} {harg7 : arg7.IsWhole}
variable {arg8 : Memref sig .tc .vmem S8x512 .f32} {harg8 : arg8.IsWhole}
variable {arg9 : Memref sig .tc .vmem S72x8 .f32} {harg9 : arg9.IsWhole}
variable {arg10 : Memref sig .tc .vmem S64x512 .f32} {harg10 : arg10.IsWhole}
variable {arg11 : Memref sig .tc .vmem S8x512 .f32} {harg11 : arg11.IsWhole}
variable {arg12 : Memref sig .tc .vmem S64x8 .f32} {harg12 : arg12.IsWhole}
variable {arg13 : Memref sig .tc .vmem S64x512 .f32} {harg13 : arg13.IsWhole}
variable {arg14 : Memref sig .tc .vmem S64x64 .f32} {harg14 : arg14.IsWhole}
variable {arg15 : Memref sig .tc .vmem S64x512 .f32} {harg15 : arg15.IsWhole}
variable {arg16 : Memref sig .tc .vmem S4x64x512 .f32} {harg16 : arg16.IsWhole}
variable {arg17 : Memref sig .tc .vmem S4x8x64x512 .f32} {harg17 : arg17.IsWhole}
variable {arg18 : Memref sig .tc .vmem S4x64x512 .f32} {harg18 : arg18.IsWhole}
variable {arg19 : Memref sig .tc .vmem S4x64x512 .f32} {harg19 : arg19.IsWhole}
variable {arg20 : Memref sig .tc .vmem S8x64x512 .f32} {harg20 : arg20.IsWhole}
variable {arg21 : Memref sig .tc .vmem S8x8x512 .f32} {harg21 : arg21.IsWhole}
variable {arg22 : Memref sig .tc .vmem S8x8x512 .f32} {harg22 : arg22.IsWhole}
variable {x0 : Vec Ideal S4x64x512 .f32}
variable {x1 : Vec Ideal S4x8x64x512 .f32}
variable {x2 : Vec Ideal S4x8x4x512 .f32}
variable {x3 : Vec Ideal S4x8x512 .f32}
variable {x4 : Vec Ideal S72x64 .f32}
variable {x5 : Vec Ideal S136x64 .f32}
variable {x6 : Vec Ideal S8x4 .f32}
variable {x7 : Vec Ideal S8x512 .f32}
variable {x8 : Vec Ideal S72x8 .f32}
variable {x9 : Vec Ideal S64x512 .f32}
variable {x10 : Vec Ideal S8x512 .f32}
variable {x11 : Vec Ideal S64x8 .f32}
variable {x12 : Vec Ideal S64x512 .f32}
variable {x13 : Vec Ideal S64x64 .f32}
variable {x14 : Vec Ideal S64x512 .f32}
variable {T : Tile} (H : T.Holds x0 x1 x2 x3 x4 x5 x6 x7 x8 x9 x10 x11 x12)
include H

/-- The output block. -/
theorem out15_at (s : Fin 4) (d : Fin 64) (r : Fin 512) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 (ix3 s d r) = T.x x5 x13 x14 s r d := by
  unfold out0_A_15
  rw [View.read_writes_junk_eq_canon]
  obtain ⟨h0, h1, h2, h3⟩ := x_block (arg16 := arg16) H (run_L15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14) d r
  fin_cases s
  exacts [
    (canon3 arg16.view _ inb_S4x64x512_S1x64x512_0_0_0 d r).trans h0,
    (canon3 arg16.view _ inb_S4x64x512_S1x64x512_1_0_0 d r).trans h1,
    (canon3 arg16.view _ inb_S4x64x512_S1x64x512_2_0_0 d r).trans h2,
    (canon3 arg16.view _ inb_S4x64x512_S1x64x512_3_0_0 d r).trans h3]

/-- The block of the keys' deviations. -/
theorem out17_at (s : Fin 4) (d : Fin 64) (r : Fin 512) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 (ix3 s d r) = (T.J s r).kstd d := by
  unfold out0_A_17
  rw [View.read_writes_junk_eq_canon]
  obtain ⟨h0, h1, h2, h3⟩ := kstd_block (arg18 := arg18) H (run_L17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14) d r
  fin_cases s
  exacts [
    (canon3 arg18.view _ inb_S4x64x512_S1x64x512_0_0_0 d r).trans h0,
    (canon3 arg18.view _ inb_S4x64x512_S1x64x512_1_0_0 d r).trans h1,
    (canon3 arg18.view _ inb_S4x64x512_S1x64x512_2_0_0 d r).trans h2,
    (canon3 arg18.view _ inb_S4x64x512_S1x64x512_3_0_0 d r).trans h3]

/-- The block of the keys' normalised deviations. -/
theorem out18_at (s : Fin 4) (d : Fin 64) (r : Fin 512) :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 (ix3 s d r) = (T.J s r).nkstd d := by
  unfold out0_A_18
  rw [View.read_writes_junk_eq_canon]
  obtain ⟨h0, h1, h2, h3⟩ := nkstd_block (arg19 := arg19) H (run_L18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14) d r
  fin_cases s
  exacts [
    (canon3 arg19.view _ inb_S4x64x512_S1x64x512_0_0_0 d r).trans h0,
    (canon3 arg19.view _ inb_S4x64x512_S1x64x512_1_0_0 d r).trans h1,
    (canon3 arg19.view _ inb_S4x64x512_S1x64x512_2_0_0 d r).trans h2,
    (canon3 arg19.view _ inb_S4x64x512_S1x64x512_3_0_0 d r).trans h3]

/-- The block of the attention weights. -/
theorem out16_at (s : Fin 4) (n : Fin 8) (d : Fin 64) (r : Fin 512) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 (ix4 s n d r) = (((T.J s r).attn n d : ℝ) : EReal) := by
  unfold out0_A_16
  rw [View.read_writes_junk_eq_canon]
  obtain ⟨
    h00, h01, h02, h03, h04, h05, h06, h07, h10, h11, h12, h13, h14, h15, h16, h17, h20, h21, h22, h23, h24, h25, h26, h27,
    h30, h31, h32, h33, h34, h35, h36, h37⟩ := attn_block (arg17 := arg17) H (run_L16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14) d r
  fin_cases s <;> fin_cases n
  exacts [
    (canon4 arg17.view _ inb_S4x8x64x512_S1x1x64x512_0_0_0_0 d r).trans h00,
    (canon4 arg17.view _ inb_S4x8x64x512_S1x1x64x512_0_1_0_0 d r).trans h01,
    (canon4 arg17.view _ inb_S4x8x64x512_S1x1x64x512_0_2_0_0 d r).trans h02,
    (canon4 arg17.view _ inb_S4x8x64x512_S1x1x64x512_0_3_0_0 d r).trans h03,
    (canon4 arg17.view _ inb_S4x8x64x512_S1x1x64x512_0_4_0_0 d r).trans h04,
    (canon4 arg17.view _ inb_S4x8x64x512_S1x1x64x512_0_5_0_0 d r).trans h05,
    (canon4 arg17.view _ inb_S4x8x64x512_S1x1x64x512_0_6_0_0 d r).trans h06,
    (canon4 arg17.view _ inb_S4x8x64x512_S1x1x64x512_0_7_0_0 d r).trans h07,
    (canon4 arg17.view _ inb_S4x8x64x512_S1x1x64x512_1_0_0_0 d r).trans h10,
    (canon4 arg17.view _ inb_S4x8x64x512_S1x1x64x512_1_1_0_0 d r).trans h11,
    (canon4 arg17.view _ inb_S4x8x64x512_S1x1x64x512_1_2_0_0 d r).trans h12,
    (canon4 arg17.view _ inb_S4x8x64x512_S1x1x64x512_1_3_0_0 d r).trans h13,
    (canon4 arg17.view _ inb_S4x8x64x512_S1x1x64x512_1_4_0_0 d r).trans h14,
    (canon4 arg17.view _ inb_S4x8x64x512_S1x1x64x512_1_5_0_0 d r).trans h15,
    (canon4 arg17.view _ inb_S4x8x64x512_S1x1x64x512_1_6_0_0 d r).trans h16,
    (canon4 arg17.view _ inb_S4x8x64x512_S1x1x64x512_1_7_0_0 d r).trans h17,
    (canon4 arg17.view _ inb_S4x8x64x512_S1x1x64x512_2_0_0_0 d r).trans h20,
    (canon4 arg17.view _ inb_S4x8x64x512_S1x1x64x512_2_1_0_0 d r).trans h21,
    (canon4 arg17.view _ inb_S4x8x64x512_S1x1x64x512_2_2_0_0 d r).trans h22,
    (canon4 arg17.view _ inb_S4x8x64x512_S1x1x64x512_2_3_0_0 d r).trans h23,
    (canon4 arg17.view _ inb_S4x8x64x512_S1x1x64x512_2_4_0_0 d r).trans h24,
    (canon4 arg17.view _ inb_S4x8x64x512_S1x1x64x512_2_5_0_0 d r).trans h25,
    (canon4 arg17.view _ inb_S4x8x64x512_S1x1x64x512_2_6_0_0 d r).trans h26,
    (canon4 arg17.view _ inb_S4x8x64x512_S1x1x64x512_2_7_0_0 d r).trans h27,
    (canon4 arg17.view _ inb_S4x8x64x512_S1x1x64x512_3_0_0_0 d r).trans h30,
    (canon4 arg17.view _ inb_S4x8x64x512_S1x1x64x512_3_1_0_0 d r).trans h31,
    (canon4 arg17.view _ inb_S4x8x64x512_S1x1x64x512_3_2_0_0 d r).trans h32,
    (canon4 arg17.view _ inb_S4x8x64x512_S1x1x64x512_3_3_0_0 d r).trans h33,
    (canon4 arg17.view _ inb_S4x8x64x512_S1x1x64x512_3_4_0_0 d r).trans h34,
    (canon4 arg17.view _ inb_S4x8x64x512_S1x1x64x512_3_5_0_0 d r).trans h35,
    (canon4 arg17.view _ inb_S4x8x64x512_S1x1x64x512_3_6_0_0 d r).trans h36,
    (canon4 arg17.view _ inb_S4x8x64x512_S1x1x64x512_3_7_0_0 d r).trans h37]

end Cert.KVal
end
-- ==== Proof.Final.lean ====
/- The four output arrays of the grid. -/
module

public import proofs.«01_k».proof.Proof.Blocks
public import proofs.«01_k».proof.Proof.Outs

@[expose] public section

set_option maxRecDepth 16384

noncomputable section

namespace Cert.KVal

open Idealize.ShloMosaic Idealize.ShloMosaic.TcCoe Cert.Model Cert.KernelIdeal Cert.KernelIdeal.Gen

/-- The two ways to weight the values agree: inverse of the sum last, or the quotient of each weight. -/
theorem x_bridge (A : Args) (t : Fin cfg0.N) (y6 y15 : S64x64.Idx → EReal) (y16 : S64.Idx → EReal)
    (x5 : Vec Ideal S136x64 .f32) (x13 : Vec Ideal S64x64 .f32) (x14 : Vec Ideal S64x512 .f32)
    (h5 : ∀ (d j : Fin 64) (hi : 64 + d.val < 136), x5 (ix2 (⟨64 + d.val, hi⟩ : Fin 136) j) = y6 (ix2 j d))
    (h13 : ∀ o d : Fin 64, x13 (ix2 o d) = y15 (ix2 d o)) (h14 : ∀ (o : Fin 64) (r : Fin 512), x14 (ix2 o r) = y16 (ix1 o))
    (s : Fin 4) (r : Fin 512) (o : Fin 64) :
    (tile A t).x x5 x13 x14 s r o = A.x y6 y15 y16 r (row t s) o := by
  unfold Tile.x Args.x
  rw [h14]
  congr 1
  refine Finset.sum_congr rfl fun d _ => ?_
  rw [h13, mul_comm, sum_mul_coe _ _ _ (by have := In.esum_pos ((tile A t).J s r) d; positivity)]
  congr 1
  unfold Args.xa
  refine Finset.sum_congr rfl fun n _ => ?_
  rw [mul_assoc, ← EReal.coe_mul, attn_fold]
  unfold Tile.vp Tile.vp0 Args.vf
  simp only [h5]
  have e : ∀ j, y6 (ix2 j d) * ((tile A t).K s r n j : EReal) = ((A.at r (row t s)).k n j : EReal) * y6 (ix2 j d) := fun j => mul_comm _ _
  simp only [e]
  rfl

variable {m : (ℓ : Loc nD τ sig) → Buf (Elt Ideal) ℓ} {c : Dev nD} {A : Args} {y6 y15 : S64x64.Idx → EReal} {y16 : S64.Idx → EReal}
  (M : Mem m c A y6 y15 y16)
include M

omit M in
theorem emb_15 (t : Fin cfg0.N) (s : Fin 4) (d : Fin 64) (r : Fin 512) : (win0_15.blk t).view.emb (ix3 s d r : S4x64x512.Idx) = (ix3 (row t s) d r : S64x64x512.Idx) := by
  have h := idx t
  blk_ext [h, row]

theorem after_15 (t : Fin cfg0.N) (s : Fin 4) (d : Fin 64) (r : Fin 512) : (outsAt0 m c t).1 (ix3 s d r) = A.x y6 y15 y16 r (row t s) d := by
  unfold outsAt0
  dsimp only
  exact (out15_at _ (holds t M) s d r).trans (x_bridge A t y6 y15 y16 _ _ _
    (fun d j hi => (blk_5 m c t _ _).trans (host_v19' M d j hi)) (fun o d => (blk_13 m c t o d).trans (host_v37 M o d))
    (fun o r => (blk_14 m c t o r).trans (host_v34 M o r)) s r d)

/-- The array of the outputs after the grid. -/
theorem final_15 : (dats m 0 c).arrAt 15 (cfgs 0).N = (fun i => A.x y6 y15 y16 (i 2) (i 0) (i 1) : S64x64x512.Idx → EReal) := by
  refine (dats m 0 c).arrAt_eq_of_covers 15 _ (by decide +kernel) fun t _ y => ?_
  blk_simp
  rw [after0_15]
  obtain ⟨s, d, r, e⟩ : ∃ (s : Fin 4) (d : Fin 64) (r : Fin 512), (y : S4x64x512.Idx) = ix3 s d r := ⟨(y : S4x64x512.Idx) 0, (y : S4x64x512.Idx) 1, (y : S4x64x512.Idx) 2, by funext a; fin_cases a <;> rfl⟩
  rw [show y = _ from e]
  refine (after_15 M t s d r).trans ?_
  rw [show (win0_15.blk t).view.emb (ix3 s d r : S4x64x512.Idx) = _ from emb_15 t s d r]
  rfl

omit M in
theorem emb_16 (t : Fin cfg0.N) (s : Fin 4) (n : Fin 8) (d : Fin 64) (r : Fin 512) : (win0_16.blk t).view.emb (ix4 s n d r : S4x8x64x512.Idx) = (ix4 (row t s) n d r : S64x8x64x512.Idx) := by
  have h := idx t
  blk_ext [h, row]

theorem after_16 (t : Fin cfg0.N) (s : Fin 4) (n : Fin 8) (d : Fin 64) (r : Fin 512) : (outsAt0 m c t).2.1 (ix4 s n d r) = (((A.at r (row t s)).attn n d : ℝ) : EReal) := by
  unfold outsAt0
  dsimp only
  exact out16_at _ (holds t M) s n d r

/-- The array of the attention weights after the grid. -/
theorem final_16 : (dats m 0 c).arrAt 16 (cfgs 0).N = (fun i => (((A.at (i 3) (i 0)).attn (i 1) (i 2) : ℝ) : EReal) : S64x8x64x512.Idx → EReal) := by
  refine (dats m 0 c).arrAt_eq_of_covers 16 _ (by decide +kernel) fun t _ y => ?_
  blk_simp
  rw [after0_16]
  obtain ⟨s, n, d, r, e⟩ : ∃ (s : Fin 4) (n : Fin 8) (d : Fin 64) (r : Fin 512), (y : S4x8x64x512.Idx) = ix4 s n d r := ⟨(y : S4x8x64x512.Idx) 0, (y : S4x8x64x512.Idx) 1, (y : S4x8x64x512.Idx) 2, (y : S4x8x64x512.Idx) 3, by funext a; fin_cases a <;> rfl⟩
  rw [show y = _ from e]
  refine (after_16 M t s n d r).trans ?_
  rw [show (win0_16.blk t).view.emb (ix4 s n d r : S4x8x64x512.Idx) = _ from emb_16 t s n d r]
  rfl

omit M in
theorem emb_17 (t : Fin cfg0.N) (s : Fin 4) (d : Fin 64) (r : Fin 512) : (win0_17.blk t).view.emb (ix3 s d r : S4x64x512.Idx) = (ix3 (row t s) d r : S64x64x512.Idx) := by
  have h := idx t
  blk_ext [h, row]

theorem after_17 (t : Fin cfg0.N) (s : Fin 4) (d : Fin 64) (r : Fin 512) : (outsAt0 m c t).2.2.1 (ix3 s d r) = (A.at r (row t s)).kstd d := by
  unfold outsAt0
  dsimp only
  exact out17_at _ (holds t M) s d r

/-- The array of the keys' deviations after the grid. -/
theorem final_17 : (dats m 0 c).arrAt 17 (cfgs 0).N = (fun i => (A.at (i 2) (i 0)).kstd (i 1) : S64x64x512.Idx → EReal) := by
  refine (dats m 0 c).arrAt_eq_of_covers 17 _ (by decide +kernel) fun t _ y => ?_
  blk_simp
  rw [after0_17]
  obtain ⟨s, d, r, e⟩ : ∃ (s : Fin 4) (d : Fin 64) (r : Fin 512), (y : S4x64x512.Idx) = ix3 s d r := ⟨(y : S4x64x512.Idx) 0, (y : S4x64x512.Idx) 1, (y : S4x64x512.Idx) 2, by funext a; fin_cases a <;> rfl⟩
  rw [show y = _ from e]
  refine (after_17 M t s d r).trans ?_
  rw [show (win0_17.blk t).view.emb (ix3 s d r : S4x64x512.Idx) = _ from emb_17 t s d r]
  rfl

omit M in
theorem emb_18 (t : Fin cfg0.N) (s : Fin 4) (d : Fin 64) (r : Fin 512) : (win0_18.blk t).view.emb (ix3 s d r : S4x64x512.Idx) = (ix3 (row t s) d r : S64x64x512.Idx) := by
  have h := idx t
  blk_ext [h, row]

theorem after_18 (t : Fin cfg0.N) (s : Fin 4) (d : Fin 64) (r : Fin 512) : (outsAt0 m c t).2.2.2 (ix3 s d r) = (A.at r (row t s)).nkstd d := by
  unfold outsAt0
  dsimp only
  exact out18_at _ (holds t M) s d r

/-- The array of the keys' normalised deviations after the grid. -/
theorem final_18 : (dats m 0 c).arrAt 18 (cfgs 0).N = (fun i => (A.at (i 2) (i 0)).nkstd (i 1) : S64x64x512.Idx → EReal) := by
  refine (dats m 0 c).arrAt_eq_of_covers 18 _ (by decide +kernel) fun t _ y => ?_
  blk_simp
  rw [after0_18]
  obtain ⟨s, d, r, e⟩ : ∃ (s : Fin 4) (d : Fin 64) (r : Fin 512), (y : S4x64x512.Idx) = ix3 s d r := ⟨(y : S4x64x512.Idx) 0, (y : S4x64x512.Idx) 1, (y : S4x64x512.Idx) 2, by funext a; fin_cases a <;> rfl⟩
  rw [show y = _ from e]
  refine (after_18 M t s d r).trans ?_
  rw [show (win0_18.blk t).view.emb (ix3 s d r : S4x64x512.Idx) = _ from emb_18 t s d r]
  rfl

end Cert.KVal
end
-- ==== Proof.Results.lean ====
/- The four results as one formula each. -/
module

public import proofs.«01_k».proof.Proof.Ops

@[expose] public section

set_option maxRecDepth 16384

noncomputable section

namespace Cert.Model

open Idealize.ShloMosaic

/-- The outputs. -/
def Args.res0 (A : Args) (y6 y15 : (⟨2, ![64, 64]⟩ : Shape).Idx → EReal) (y16 : (⟨1, ![64]⟩ : Shape).Idx → EReal) :
    (⟨3, ![512, 64, 64]⟩ : Shape).Idx → EReal := fun i => A.x y6 y15 y16 (i 0) (i 1) (i 2)

/-- The attention weights. -/
def Args.res1 (A : Args) : (⟨4, ![512, 64, 8, 64]⟩ : Shape).Idx → EReal := fun i => (((A.at (i 0) (i 1)).attn (i 2) (i 3) : ℝ) : EReal)

/-- The keys' deviations. -/
def Args.res2 (A : Args) : (⟨3, ![512, 64, 64]⟩ : Shape).Idx → EReal := fun i => (A.at (i 0) (i 1)).kstd (i 2)

/-- The keys' normalised deviations. -/
def Args.res3 (A : Args) : (⟨3, ![512, 64, 64]⟩ : Shape).Idx → EReal := fun i => (A.at (i 0) (i 1)).nkstd (i 2)

/-- An index of a rank-three array by its coordinates. -/
theorem eta3 {a b c : ℕ} (i : (⟨3, ![a, b, c]⟩ : Shape).Idx) : ix3 (i 0) (i 1) (i 2) = i := by
  funext k; fin_cases k <;> rfl

/-- An index of a rank-four array by its coordinates. -/
theorem eta4 {a b c d : ℕ} (i : (⟨4, ![a, b, c, d]⟩ : Shape).Idx) : ix4 (i 0) (i 1) (i 2) (i 3) = i := by
  funext k; fin_cases k <;> rfl

end Cert.Model
end
-- ==== Proof.Tail.lean ====
/- The results of @main: the output arrays transposed back. -/
module

public import proofs.«01_k».proof.Proof.Final
public import proofs.«01_k».proof.Proof.Results

@[expose] public section

set_option maxRecDepth 16384

noncomputable section

namespace Cert.KVal

open Idealize.ShloMosaic Idealize.ShloMosaic.TcCoe Idealize.SL.Sem Cert.Model Cert.KernelIdeal Cert.KernelIdeal.Gen

/-- No two windows share an array. -/
theorem arr_inj : Function.Injective (Pipeline.arrRef cfg0.spec) := by decide +kernel

variable {m : (ℓ : Loc nD τ sig) → Buf (Elt Ideal) ℓ} {c : Dev nD} {A : Args} {y6 y15 : S64x64.Idx → EReal} {y16 : S64.Idx → EReal}
  (M : Mem m c A y6 y15 y16)
include M

theorem arr_15 : Pipeline.withArrays cfg0.spec c (V0 m c) (fun w => (dats m 0 c).arrAt w cfg0.N) (Proc.devRef .tc main_v38_0)
    = (fun i => A.x y6 y15 y16 (i 2) (i 0) (i 1) : S64x64x512.Idx → EReal) :=
  (Pipeline.withArrays_arr cfg0.spec arr_inj c (V0 m c) (fun w => (dats m 0 c).arrAt w cfg0.N) 15).trans (final_15 M)

theorem tail_0 : Pipeline.afterTail₀ cfgs (dats m) 0 (V0 m) [hostOps1] c main_v39 = A.res0 y6 y15 y16 := by
  show StableHlo.after hostOps1 (Pipeline.withArrays cfg0.spec c (V0 m c) (fun w => (dats m 0 c).arrAt w cfg0.N)) (Proc.devRef .tc main_v39) = _
  have e := arr_15 M
  generalize Pipeline.withArrays cfg0.spec c (V0 m c) (fun w => (dats m 0 c).arrAt w cfg0.N) = U at e ⊢
  after_results
  rw [e]
  funext i
  rw [← eta3 (i : S512x64x64.Idx)]
  pointwise []
  rfl

theorem arr_16 : Pipeline.withArrays cfg0.spec c (V0 m c) (fun w => (dats m 0 c).arrAt w cfg0.N) (Proc.devRef .tc main_v38_1)
    = (fun i => (((A.at (i 3) (i 0)).attn (i 1) (i 2) : ℝ) : EReal) : S64x8x64x512.Idx → EReal) :=
  (Pipeline.withArrays_arr cfg0.spec arr_inj c (V0 m c) (fun w => (dats m 0 c).arrAt w cfg0.N) 16).trans (final_16 M)

theorem tail_1 : Pipeline.afterTail₀ cfgs (dats m) 0 (V0 m) [hostOps1] c main_v40 = A.res1 := by
  show StableHlo.after hostOps1 (Pipeline.withArrays cfg0.spec c (V0 m c) (fun w => (dats m 0 c).arrAt w cfg0.N)) (Proc.devRef .tc main_v40) = _
  have e := arr_16 M
  generalize Pipeline.withArrays cfg0.spec c (V0 m c) (fun w => (dats m 0 c).arrAt w cfg0.N) = U at e ⊢
  after_results
  rw [e]
  funext i
  rw [← eta4 (i : S512x64x8x64.Idx)]
  pointwise []
  rfl

theorem arr_17 : Pipeline.withArrays cfg0.spec c (V0 m c) (fun w => (dats m 0 c).arrAt w cfg0.N) (Proc.devRef .tc main_v38_2)
    = (fun i => (A.at (i 2) (i 0)).kstd (i 1) : S64x64x512.Idx → EReal) :=
  (Pipeline.withArrays_arr cfg0.spec arr_inj c (V0 m c) (fun w => (dats m 0 c).arrAt w cfg0.N) 17).trans (final_17 M)

theorem tail_2 : Pipeline.afterTail₀ cfgs (dats m) 0 (V0 m) [hostOps1] c main_v41 = A.res2 := by
  show StableHlo.after hostOps1 (Pipeline.withArrays cfg0.spec c (V0 m c) (fun w => (dats m 0 c).arrAt w cfg0.N)) (Proc.devRef .tc main_v41) = _
  have e := arr_17 M
  generalize Pipeline.withArrays cfg0.spec c (V0 m c) (fun w => (dats m 0 c).arrAt w cfg0.N) = U at e ⊢
  after_results
  rw [e]
  funext i
  rw [← eta3 (i : S512x64x64.Idx)]
  pointwise []
  rfl

theorem arr_18 : Pipeline.withArrays cfg0.spec c (V0 m c) (fun w => (dats m 0 c).arrAt w cfg0.N) (Proc.devRef .tc main_v38_3)
    = (fun i => (A.at (i 2) (i 0)).nkstd (i 1) : S64x64x512.Idx → EReal) :=
  (Pipeline.withArrays_arr cfg0.spec arr_inj c (V0 m c) (fun w => (dats m 0 c).arrAt w cfg0.N) 18).trans (final_18 M)

theorem tail_3 : Pipeline.afterTail₀ cfgs (dats m) 0 (V0 m) [hostOps1] c main_v42 = A.res3 := by
  show StableHlo.after hostOps1 (Pipeline.withArrays cfg0.spec c (V0 m c) (fun w => (dats m 0 c).arrAt w cfg0.N)) (Proc.devRef .tc main_v42) = _
  have e := arr_18 M
  generalize Pipeline.withArrays cfg0.spec c (V0 m c) (fun w => (dats m 0 c).arrAt w cfg0.N) = U at e ⊢
  after_results
  rw [e]
  funext i
  rw [← eta3 (i : S512x64x64.Idx)]
  pointwise []
  rfl

end Cert.KVal
end
-- ==== Proof.Ref.lean ====
/- The reference's printed program read at an index: every step that the results depend on, as the real number of one
   ray and one sample. -/
module

public import proofs.«01_k».proof.Proof.Ops
public import proofs.«01_k».proof.Proof.Gen.ReferenceIdeal.Read

@[expose] public section

set_option maxRecDepth 16384

noncomputable section

namespace Cert.RefVal

open Idealize.ShloMosaic Idealize.ShloMosaic.TcCoe Cert.Model Cert.ReferenceIdeal Cert.ReferenceIdeal.Read

variable (A : Args) (r : Fin 512) (s : Fin 64)

theorem qf_at (d : Fin 64) : val_main_v0 (F := Ideal) (up A.a0) (up A.a4) (ix3 r s d) = (((A.at r s).qf d : ℝ) : EReal) := by
  pointwise [val_main_v0]
  simp only [up_apply, ← EReal.coe_mul, ← coe_sum]; rfl

theorem kf_at (n : Fin 8) (d : Fin 64) :
    val_main_v1 (F := Ideal) (up A.a1) (up A.a5) (ix4 r s n d) = (((A.at r s).kf n d : ℝ) : EReal) := by
  pointwise [val_main_v1]
  simp only [up_apply, ← EReal.coe_mul, ← coe_sum]; rfl

theorem valid_at (n : Fin 8) : val_main_v4 (F := Ideal) A.x3 (ix3 r s n) = (((A.at r s).μ n : ℝ) : EReal) := by
  pointwise [val_main_v4, val_main_v3]
  rw [@uitofp_bit _ (Classical.propDecidable _)]; rfl

theorem w_at (n : Fin 8) : val_main_v9 (F := Ideal) A.x3 (ix3 r s n) = (((A.at r s).w n : ℝ) : EReal) := by
  pointwise [val_main_v9, val_main_call0_v1, val_main_call0_v2, val_main_call0_v0, val_main_cst_1, val_main_v8, val_main_v7, val_main_v6, val_main_cst_0, val_main_v5, val_main_cst]
  simp only [valid_at, ← coe_sum]
  rw [show id (constant (F := Ideal) S_ FTy.f32 1065353216#32) ix0 = 1 from Ideal.ofBits_one_f32]
  exact w_fold (A.at r s) n

theorem c_at : val_main_v10 (F := Ideal) A.x3 (ix2 r s) = (((A.at r s).c : ℝ) : EReal) := by
  pointwise [val_main_v10, val_main_cst_2]
  simp only [w_at, ← coe_sum, In.sum_w]

theorem mean_at (d : Fin 64) :
    val_main_v17 (F := Ideal) (up A.a1) A.x3 (up A.a5) (ix3 r s d) = (((A.at r s).mean d : ℝ) : EReal) := by
  pointwise [val_main_v17, val_main_v14, val_main_v13, val_main_v12, val_main_v11, val_main_cst_3, val_main_v16, val_main_v15]
  simp only [w_at, kf_at, c_at, ← EReal.coe_mul, ← coe_sum]
  rw [div_coe' _ _ (A.at r s).c_pos.ne']; rfl

theorem var_at (d : Fin 64) :
    val_main_v31 (F := Ideal) (up A.a1) A.x3 (up A.a5) (ix3 r s d) = (((A.at r s).var d : ℝ) : EReal) := by
  pointwise [val_main_v31, val_main_v24, val_main_v23, val_main_v22, val_main_v21, val_main_v20, val_main_v19, val_main_v18, val_main_v11, val_main_cst_4, val_main_v30, val_main_v29, val_main_v28, val_main_v27, val_main_v26, val_main_v25, val_main_cst_5, val_main_cst_6]
  simp only [w_at, kf_at, mean_at, c_at]
  simp only [← EReal.coe_sub, ← EReal.coe_mul, ← coe_sum, sub_coe_one, max_coe_one]
  rw [div_coe' _ _ (A.at r s).cm1_pos.ne']
  unfold In.var
  simp only [sq]

theorem std_at (d : Fin 64) :
    val_main_v38 (F := Ideal) (up A.a1) A.x3 (up A.a5) (ix3 r s d) = (((A.at r s).std d : ℝ) : EReal) := by
  pointwise [val_main_v38, val_main_v37, val_main_v36, val_main_v35, val_main_v34, val_main_v33, val_main_v32, val_main_cst_7, val_main_cst_8, val_main_cst_9, val_main_call1_v0, val_main_call1_v1, val_main_call1_v2]
  simp only [var_at, c_at]
  rw [show id (constant (F := Ideal) S_ FTy.f32 1065353216#32) ix0 = 1 from Ideal.ofBits_one_f32, max_coe_zero]
  exact std_fold (A.at r s) d

theorem mabs_at (d : Fin 64) :
    val_main_v45 (F := Ideal) (up A.a1) A.x3 (up A.a5) (ix3 r s d) = (((A.at r s).mabs d : ℝ) : EReal) := by
  pointwise [val_main_v45, val_main_v44, val_main_v43, val_main_v42, val_main_v41, val_main_v40, val_main_v39, val_main_v11, val_main_cst_10]
  simp only [w_at, kf_at, c_at]
  simp only [abs_coe, ← EReal.coe_mul, ← coe_sum]
  rw [div_coe' _ _ (A.at r s).c_pos.ne']; rfl

theorem kstd_at (d : Fin 64) :
    val_main_v46 (F := Ideal) (up A.a1) A.x3 (up A.a5) (ix3 r s d) = (A.at r s).kstd d := by
  pointwise [val_main_v46, val_main_v34, val_main_v33, val_main_v32, val_main_cst_7, val_main_cst_11, val_main_call2_v0, val_main_call2_v1, val_main_call2_v2]
  simp only [std_at, c_at]
  rw [show id (constant (F := Ideal) S_ FTy.f32 0#32) ix0 = 0 from Ideal.ofBits_zero_f32]
  exact kstd_fold (A.at r s) d

theorem nkstd_at (d : Fin 64) :
    val_main_v50 (F := Ideal) (up A.a1) A.x3 (up A.a5) (ix3 r s d) = (A.at r s).nkstd d := by
  pointwise [val_main_v50, val_main_v49, val_main_v48, val_main_v47, val_main_cst_12, val_main_cst_13, val_main_v34, val_main_v33, val_main_v32, val_main_cst_7, val_main_call3_v0, val_main_call3_v1, val_main_call3_v2]
  simp only [std_at, mabs_at, c_at]
  rw [show id (constant (F := Ideal) S_ FTy.f32 0#32) ix0 = 0 from Ideal.ofBits_zero_f32]
  exact nkstd_fold (A.at r s) d

theorem ph_at (n : Fin 8) (h : Fin 8) :
    val_main_v55 (F := Ideal) (up A.a2) (up A.a7) (up A.a8) (ix4 r s n h) = (((A.at r s).ph n h : ℝ) : EReal) := by
  pointwise [val_main_v55, val_main_v54, val_main_v53, val_main_v52, val_main_v51, val_main_call4_v0, val_main_call4_cst]
  simp only [up_apply, ← EReal.coe_mul, ← coe_sum, ← EReal.coe_add]
  rw [max_coe_zero]; rfl

theorem posf_at (n : Fin 8) (d : Fin 64) :
    val_main_v59 (F := Ideal) (up A.a2) (up A.a7) (up A.a8) (up A.a9) (up A.a10) (ix4 r s n d)
      = (((A.at r s).posf n d : ℝ) : EReal) := by
  pointwise [val_main_v59, val_main_v58, val_main_v57, val_main_v56]
  simp only [ph_at, up_apply, ← EReal.coe_mul, ← coe_sum, ← EReal.coe_add]; rfl

theorem a1_at (n : Fin 8) (h : Fin 8) :
    val_main_v68 (F := Ideal) (up A.a0) (up A.a1) (up A.a2) (up A.a4) (up A.a5) (up A.a7) (up A.a8) (up A.a9) (up A.a10) (up A.a11) (up A.a12) (ix4 r s n h)
      = (((A.at r s).a1 n h : ℝ) : EReal) := by
  pointwise [val_main_v68, val_main_v67, val_main_v66, val_main_v65, val_main_v64, val_main_v63, val_main_v62, val_main_v61, val_main_v60, val_main_call5_v0, val_main_call5_cst]
  simp only [qf_at, kf_at, posf_at, up_apply, ← EReal.coe_mul, ← coe_sum, ← EReal.coe_add, ← EReal.coe_sub]
  rw [max_coe_zero]; rfl

theorem logit_at (n : Fin 8) (d : Fin 64) :
    val_main_v72 (F := Ideal) (up A.a0) (up A.a1) (up A.a2) (up A.a4) (up A.a5) (up A.a7) (up A.a8) (up A.a9) (up A.a10) (up A.a11) (up A.a12) (up A.a13) (up A.a14) (ix4 r s n d)
      = (((A.at r s).logit n d : ℝ) : EReal) := by
  pointwise [val_main_v72, val_main_v71, val_main_v70, val_main_v69]
  simp only [a1_at, up_apply, ← EReal.coe_mul, ← coe_sum, ← EReal.coe_add]; rfl

theorem ml_at (n : Fin 8) (d : Fin 64) :
    val_main_v75 (F := Ideal) (up A.a0) (up A.a1) (up A.a2) A.x3 (up A.a4) (up A.a5) (up A.a7) (up A.a8) (up A.a9) (up A.a10) (up A.a11) (up A.a12) (up A.a13) (up A.a14) (ix4 r s n d)
      = (A.at r s).ml n d := by
  pointwise [val_main_v75, val_main_call6_v0, val_main_call6_v1, val_main_call6_v2, val_main_cst_15, val_main_v74, val_main_v73, val_main_v11, val_main_cst_14]
  simp only [logit_at, w_at]
  rw [show id (constant (F := Ideal) S_ FTy.f32 4286578688#32) ix0 = ⊥ from ofBits_bot]
  exact ml_fold (A.at r s) n d

/-- A maximum over the third axis, at an index. -/
theorem fold_gen (x : S512x64x8x64.Idx → EReal) (b : S_.Idx → EReal) (h : S512x64x8x64.ReducesTo [2] S512x64x64) (hu : 0 < S_.numel) (r : Fin 512) (s d : Fin 64) :
    Host.reduce (FloatOps.maximumf (F := Ideal) (φ := .f32)) x b h hu (ix3 r s d) = Finset.fold max (b (Shape.Idx.first hu)) (fun n : Fin 8 => x (ix4 r s n d)) Finset.univ := by
  rw [Host.reduce_eq_fold, Shape.ReducesTo.fold_fiber_r4_a2]
  rfl

/-- The maximum over the source views, at an index. -/
theorem fold_at (x0 x1 x2 x3 x4 x5 x7 x8 x9 x10 x11 x12 x13 x14) (d : Fin 64) :
    val_main_v76 (F := Ideal) x0 x1 x2 x3 x4 x5 x7 x8 x9 x10 x11 x12 x13 x14 (ix3 r s d)
      = Finset.fold max (Ideal.ofBits FTy.f32 4286578688#32)
          (fun n => val_main_v75 (F := Ideal) x0 x1 x2 x3 x4 x5 x7 x8 x9 x10 x11 x12 x13 x14 (ix4 r s n d)) Finset.univ := by
  unfold val_main_v76
  rw [fold_gen]
  rfl

theorem mx_at (d : Fin 64) :
    val_main_v78 (F := Ideal) (up A.a0) (up A.a1) (up A.a2) A.x3 (up A.a4) (up A.a5) (up A.a7) (up A.a8) (up A.a9) (up A.a10) (up A.a11) (up A.a12) (up A.a13) (up A.a14) (ix3 r s d)
      = (((A.at r s).mx d : ℝ) : EReal) := by
  rw [val_main_v78_apply, fold_at]
  simp only [ml_at]
  have h : val_main_v77 (F := Ideal) (ix3 r s d) = Ideal.ofBits FTy.f32 4286578688#32 := rfl
  rw [h, Ideal.maximumf_eq_max, ofBits_bot, fold_max_eq_sup, In.sup_ml, max_eq_right bot_le]

theorem e_at (n : Fin 8) (d : Fin 64) :
    val_main_v82 (F := Ideal) (up A.a0) (up A.a1) (up A.a2) A.x3 (up A.a4) (up A.a5) (up A.a7) (up A.a8) (up A.a9) (up A.a10) (up A.a11) (up A.a12) (up A.a13) (up A.a14) (ix4 r s n d)
      = (((A.at r s).e n d : ℝ) : EReal) := by
  pointwise [val_main_v82, val_main_v81, val_main_v80, val_main_v79]
  simp only [ml_at, mx_at]
  unfold In.ml In.e
  split
  · exact exp_bot_sub _
  · exact exp_sub_coe _ _

theorem attn_at (n : Fin 8) (d : Fin 64) :
    val_main_v86 (F := Ideal) (up A.a0) (up A.a1) (up A.a2) A.x3 (up A.a4) (up A.a5) (up A.a7) (up A.a8) (up A.a9) (up A.a10) (up A.a11) (up A.a12) (up A.a13) (up A.a14) (ix4 r s n d)
      = (((A.at r s).attn n d : ℝ) : EReal) := by
  pointwise [val_main_v86, val_main_v85, val_main_v84, val_main_v83, val_main_cst_18]
  simp only [e_at, ← coe_sum]
  rw [show (∑ i, (A.at r s).e i d) = (A.at r s).esum d from rfl, div_coe' _ _ ((A.at r s).esum_pos d).ne']; rfl

theorem x_at (x6 x15 : (⟨S64x64, .f32⟩ : BufTy).Contents (Elt Ideal)) (x16 : (⟨S64, .f32⟩ : BufTy).Contents (Elt Ideal)) (o : Fin 64) :
    val_main_v93 (F := Ideal) (up A.a0) (up A.a1) (up A.a2) A.x3 (up A.a4) (up A.a5) x6 (up A.a7) (up A.a8) (up A.a9) (up A.a10) (up A.a11) (up A.a12) (up A.a13) (up A.a14) x15 x16 (ix3 r s o)
      = A.x x6 x15 x16 r s o := by
  pointwise [val_main_v93, val_main_v92, val_main_v91, val_main_v90, val_main_v89, val_main_v88, val_main_v87, val_main_v2, val_main_cst_19]
  simp only [attn_at, posf_at, up_apply]
  rfl

end Cert.RefVal
end
-- ==== Proof.RefResults.lean ====
/- The reference's four results as whole arrays. -/
module

public import proofs.«01_k».proof.Proof.Ref
public import proofs.«01_k».proof.Proof.Results

@[expose] public section

set_option maxRecDepth 16384

noncomputable section

namespace Cert.RefVal

open Idealize.ShloMosaic Idealize.ShloMosaic.TcCoe Cert.Model Cert.ReferenceIdeal Cert.ReferenceIdeal.Read

variable {m : (ℓ : Loc nD τ sig) → Buf (Elt Ideal) ℓ} {c : Dev nD} {A : Args} {y6 y15 : S64x64.Idx → EReal} {y16 : S64.Idx → EReal}

/-- What @main's arguments hold. -/
structure Mem (m : (ℓ : Loc nD τ sig) → Buf (Elt Ideal) ℓ) (c : Dev nD) (A : Args)
    (y6 y15 : S64x64.Idx → EReal) (y16 : S64.Idx → EReal) : Prop where
  a0 : m ((c.tc : Thread nD τ).loc main_arg0) = up A.a0
  a1 : m ((c.tc : Thread nD τ).loc main_arg1) = up A.a1
  a2 : m ((c.tc : Thread nD τ).loc main_arg2) = up A.a2
  a3 : m ((c.tc : Thread nD τ).loc main_arg3) = A.x3
  a4 : m ((c.tc : Thread nD τ).loc main_arg4) = up A.a4
  a5 : m ((c.tc : Thread nD τ).loc main_arg5) = up A.a5
  a6 : m ((c.tc : Thread nD τ).loc main_arg6) = y6
  a7 : m ((c.tc : Thread nD τ).loc main_arg7) = up A.a7
  a8 : m ((c.tc : Thread nD τ).loc main_arg8) = up A.a8
  a9 : m ((c.tc : Thread nD τ).loc main_arg9) = up A.a9
  a10 : m ((c.tc : Thread nD τ).loc main_arg10) = up A.a10
  a11 : m ((c.tc : Thread nD τ).loc main_arg11) = up A.a11
  a12 : m ((c.tc : Thread nD τ).loc main_arg12) = up A.a12
  a13 : m ((c.tc : Thread nD τ).loc main_arg13) = up A.a13
  a14 : m ((c.tc : Thread nD τ).loc main_arg14) = up A.a14
  a15 : m ((c.tc : Thread nD τ).loc main_arg15) = y15
  a16 : m ((c.tc : Thread nD τ).loc main_arg16) = y16

variable (M : Mem m c A y6 y15 y16)
include M

theorem res_0 : Cert.ReferenceIdeal.Value.res_main_v93 m c = A.res0 y6 y15 y16 := by
  rw [val_main_v93_eq, M.a0, M.a1, M.a2, M.a3, M.a4, M.a5, M.a6, M.a7, M.a8, M.a9, M.a10, M.a11, M.a12, M.a13, M.a14, M.a15, M.a16]
  funext i
  refine (congrArg _ (eta3 i).symm).trans ?_
  exact x_at A _ _ y6 y15 y16 _

theorem res_1 : Cert.ReferenceIdeal.Value.res_main_v86 m c = A.res1 := by
  rw [val_main_v86_eq, M.a0, M.a1, M.a2, M.a3, M.a4, M.a5, M.a7, M.a8, M.a9, M.a10, M.a11, M.a12, M.a13, M.a14]
  funext i
  refine (congrArg _ (eta4 i).symm).trans ?_
  exact attn_at A _ _ _ _

theorem res_2 : Cert.ReferenceIdeal.Value.res_main_v46 m c = A.res2 := by
  rw [val_main_v46_eq, M.a1, M.a3, M.a5]
  funext i
  refine (congrArg _ (eta3 i).symm).trans ?_
  exact kstd_at A _ _ _

theorem res_3 : Cert.ReferenceIdeal.Value.res_main_v50 m c = A.res3 := by
  rw [val_main_v50_eq, M.a1, M.a3, M.a5]
  funext i
  refine (congrArg _ (eta3 i).symm).trans ?_
  exact nkstd_at A _ _ _

end Cert.RefVal
end
-- ==== Proof.Algebraic.lean ====
/- The kernel and the reference leave the same four results. -/
module

public import proofs.«01_k».proof.Proof.Pre
public import proofs.«01_k».proof.Proof.Tail
public import proofs.«01_k».proof.Proof.RefResults

@[expose] public section

set_option maxRecDepth 16384

noncomputable section

namespace Cert.KVal

open Idealize.ShloMosaic Idealize.ShloMosaic.TcCoe Idealize.SL.Sem Cert.Model

section Run

open Cert.KernelIdeal Cert.KernelIdeal.Gen

/-- The kernel's run: the four results as the lines after the grid leave them, and the arguments unchanged. -/
theorem run_kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
        r.2.mem ((c.tc : Thread nD τ).loc main_v39) = Pipeline.afterTail₀ cfgs (dats m) 0 (V0 m) [hostOps1] c main_v39
        ∧ r.2.mem ((c.tc : Thread nD τ).loc main_v40) = Pipeline.afterTail₀ cfgs (dats m) 0 (V0 m) [hostOps1] c main_v40
        ∧ r.2.mem ((c.tc : Thread nD τ).loc main_v41) = Pipeline.afterTail₀ cfgs (dats m) 0 (V0 m) [hostOps1] c main_v41
        ∧ r.2.mem ((c.tc : Thread nD τ).loc main_v42) = Pipeline.afterTail₀ cfgs (dats m) 0 (V0 m) [hostOps1] c main_v42
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)) :=
  (θ_run defs _ _).mono (fun _ h c => ⟨(h.1 c).2 main_v39 (Pipeline.mem_restRefs_of main_v39 (by decide) (by decide)),
      (h.1 c).2 main_v40 (Pipeline.mem_restRefs_of main_v40 (by decide) (by decide)),
      (h.1 c).2 main_v41 (Pipeline.mem_restRefs_of main_v41 (by decide) (by decide)),
      (h.1 c).2 main_v42 (Pipeline.mem_restRefs_of main_v42 (by decide) (by decide)), h.2 c⟩)
    (θ_run_and (run_main m ρ) (unchanged m ρ))

end Run

/-- The four results agree on the extended reals. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hagree
  have key : ∀ c, ∃ (A : Args) (y6 y15 : Cert.KernelIdeal.S64x64.Idx → EReal) (y16 : Cert.KernelIdeal.S64.Idx → EReal),
      Mem m c A y6 y15 y16 ∧ Cert.RefVal.Mem m' c A y6 y15 y16 := fun c => by
    obtain ⟨A, y6, y15, y16, M⟩ := mem_of_pre m hpre c
    obtain ⟨e0, e1, e2, e3, e4, e5, e6, e7, e8, e9, e10, e11, e12, e13, e14, e15, e16⟩ := hagree c
    exact ⟨A, y6, y15, y16, M, ⟨e0.trans M.a0, e1.trans M.a1, e2.trans M.a2, e3.trans M.a3, e4.trans M.a4, e5.trans M.a5,
      e6.trans M.a6, e7.trans M.a7, e8.trans M.a8, e9.trans M.a9, e10.trans M.a10, e11.trans M.a11, e12.trans M.a12,
      e13.trans M.a13, e14.trans M.a14, e15.trans M.a15, e16.trans M.a16⟩⟩
  refine ⟨_, _, _, _, run_kernel m g, (θ_run _ _ _).mono (fun r h c => ?_) (Cert.ReferenceIdeal.Value.run m' g')⟩
  obtain ⟨A, y6, y15, y16, M, M'⟩ := key c
  obtain ⟨h0, h1, h2, h3, ha⟩ := h c
  exact ⟨h0.trans ((Cert.RefVal.res_0 M').trans (tail_0 M).symm), h1.trans ((Cert.RefVal.res_1 M').trans (tail_1 M).symm),
    h2.trans ((Cert.RefVal.res_2 M').trans (tail_2 M).symm), h3.trans ((Cert.RefVal.res_3 M').trans (tail_3 M).symm), ha⟩

end Cert.KVal
end
-- ==== Proof.lean ====
/- The certificate: the three frames, the (trivial) passage from the kernel to its idealised program, and the four
   results equal to the reference's on the extended reals. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem

/-- The reference leaves its arguments as they were, from any memory; it has no semaphore. -/
theorem frame_reference : Cert.quiescent_ReferenceIdeal (hReferenceIdeal := Cert.ReferenceIdeal.Gen.facts) := by
  intro m g _
  refine (θ_run _ _ _).mono (fun r h => ⟨fun c => ?_, sem_eq_zero_of_no_sems (by decide) r.2⟩)
    (Cert.ReferenceIdeal.Value.run m g)
  obtain ⟨-, -, -, -, ha⟩ := h c
  exact ha

/-- All the claims together. -/
theorem claim : Cert.Claim := ⟨Cert.Kernel.Gen.facts, Cert.KernelIdeal.Gen.facts, Cert.ReferenceIdeal.Gen.facts,
  Cert.KVal.pre_facts, fun m g _ => Cert.Kernel.Gen.frame m g, fun m g _ => Cert.KernelIdeal.Gen.frame m g,
  fun m g _ => Cert.KernelIdeal.Gen.frame m g, frame_reference, fun m g _ => frame_reference m g trivial, trivial,
  Cert.KVal.algebraic⟩

end Cert.Proof

end
